-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Reference (m : (ℓ : Loc Cert.Reference.nD Cert.Reference.τ Cert.Reference.sig) → Buf (Elt Bits) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def preserves_Reference_ReferenceIdeal : Prop :=
  IdealRules.named_const.Statement Cert.ReferenceIdeal.κ "clip_lo" .f32 0xC2700000#32 ⊥
  ∧ IdealRules.named_const.Statement Cert.ReferenceIdeal.κ "clip_hi" .f32 0x42700000#32 ⊤

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 2048]⟩ ⟨2, ![4096, 2048]⟩ 0 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 2048]⟩ ⟨2, ![4096, 2048]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReference : Cert.Reference.Facts) (hReferenceIdeal : Cert.ReferenceIdeal.Facts),
    quiescent_Kernel (hKernel := hKernel)
    ∧ quiescent_KernelIdeal (hKernelIdeal := hKernelIdeal)
    ∧ quiescent_Reference (hReference := hReference)
    ∧ quiescent_ReferenceIdeal (hReferenceIdeal := hReferenceIdeal)
    ∧ preserves_Kernel_KernelIdeal
    ∧ preserves_Reference_ReferenceIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1024x2048 : Shape := ⟨2, ![1024, 2048]⟩
abbrev S1 : Shape := ⟨1, ![1]⟩
abbrev S8x2x1024x256 : Shape := ⟨4, ![8, 2, 1024, 256]⟩
abbrev S4x1024x1024 : Shape := ⟨3, ![4, 1024, 1024]⟩
abbrev S8x2 : Shape := ⟨2, ![8, 2]⟩
abbrev S4 : Shape := ⟨1, ![4]⟩
abbrev S_ : Shape := ⟨0, ![]⟩
abbrev S8 : Shape := ⟨1, ![8]⟩
abbrev S1x1024x1024 : Shape := ⟨3, ![1, 1024, 1024]⟩
abbrev S1024x1024 : Shape := ⟨2, ![1024, 1024]⟩
abbrev S1024x256 : Shape := ⟨2, ![1024, 256]⟩
abbrev S1x1x1024x256 : Shape := ⟨4, ![1, 1, 1024, 256]⟩
abbrev S1x1 : Shape := ⟨2, ![1, 1]⟩

abbrev nBuf : Space → Nat
  | .hbm => 5
  | .vmem => 4
  | .smem => 2
  | _ => 0

abbrev bufTy : (tb : Table) → Fin (tcTables nBuf tb) → BufTy
  | .hbm, ⟨0, _⟩ => ⟨S4096x1024, .f32⟩
  | .hbm, ⟨1, _⟩ => ⟨S1024x2048, .f32⟩
  | .hbm, ⟨2, _⟩ => ⟨S1, .f32⟩
  | .hbm, ⟨3, _⟩ => ⟨S1, .f32⟩
  | .hbm, ⟨4, _⟩ => ⟨S1024x2048, .f32⟩
  | .local _ .vmem, ⟨0, _⟩ => ⟨S1024x2048, .f32⟩
  | .local _ .vmem, ⟨1, _⟩ => ⟨S8x2x1024x256, .bf16⟩
  | .local _ .vmem, ⟨2, _⟩ => ⟨S4x1024x1024, .f32⟩
  | .local _ .vmem, ⟨3, _⟩ => ⟨S1024x2048, .f32⟩
  | .local _ .smem, ⟨0, _⟩ => ⟨S1, .f32⟩
  | .local _ .smem, ⟨1, _⟩ => ⟨S1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | _, _ => false

abbrev semScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => false
  | _ => false

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  (ofTc nBuf bufTy 9 40 bufScoped semScoped dmaSemScoped tileCredit tileCredit_eq_zero tileCredit_pos).withBarriers [(0, 8)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_stg1_0 : Ref sig .tc := ⟨.smem, 0, rfl⟩
abbrev cc0_stg2_0 : Ref sig .tc := ⟨.smem, 1, rfl⟩
abbrev cc0_sem0_0 : DmaSem sig := 0
abbrev cc0_sem1_0 : DmaSem sig := 1
abbrev cc0_sem2_0 : DmaSem sig := 2
abbrev barrier0 : Sem sig := 8

abbrev nD : Nat := 4
abbrev τ : Topo := Topo.v7x

variable {F : FTy → Type} [FloatOps F]

abbrev grid0 : Pipeline.Grid := .none

def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_5 : BitVec 32 := 4#32
  let v8 : BitVec 32 := Scalar.addi v2 c4_i32_5
  let c1_i32_6 : BitVec 32 := 1#32
  let v9 : BitVec 32 := Scalar.subi v8 c1_i32_6
  let c4_i32_7 : BitVec 32 := 4#32
  let v10 : BitVec 32 := Scalar.remsi v9 c4_i32_7
  let c1024_i32 : BitVec 32 := 1024#32
  let v15 : BitVec 32 := Scalar.muli v10 c1024_i32
  let c0_i32_14 : BitVec 32 := 0#32
  ![v15.toNat, 0]
def k0_off2 (d0 : Dev nD) (c1_i32_8 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v11 : BitVec 32 := Scalar.addi v2 c1_i32_8
  let c4_i32_9 : BitVec 32 := 4#32
  let v12 : BitVec 32 := Scalar.remsi v11 c4_i32_9
  let c1024_i32_15 : BitVec 32 := 1024#32
  let v21 : BitVec 32 := Scalar.muli v12 c1024_i32_15
  let c0_i32_20 : BitVec 32 := 0#32
  ![v21.toNat, 0]
def k0_off3 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_27 : BitVec 32 := 1024#32
  let v33 : BitVec 32 := Scalar.muli v2 c1024_i32_27
  let c0_i32_31 : BitVec 32 := 0#32
  ![v33.toNat, 0]
def k0_dev1 (d0 : Dev nD) : Nat :=
  let c0_i32_34 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_33 : BitVec 32 := 1#32
  let v40 : BitVec 32 := Scalar.muli v5 c1_i32_33
  let v41 : BitVec 32 := Scalar.addi c0_i32_34 v40
  v41.toNat
def k0_dev2 (d0 : Dev nD) : Nat :=
  let c0_i32_37 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_36 : BitVec 32 := 1#32
  let v42 : BitVec 32 := Scalar.muli v7 c1_i32_36
  let v43 : BitVec 32 := Scalar.addi c0_i32_37 v42
  v43.toNat
def k0_dev3 (d0 : Dev nD) : Nat :=
  let c0_i32_63 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_62 : BitVec 32 := 1#32
  let v64 : BitVec 32 := Scalar.muli v7 c1_i32_62
  let v65 : BitVec 32 := Scalar.addi c0_i32_63 v64
  v65.toNat
def k0_dev4 (d0 : Dev nD) : Nat :=
  let c0_i32_89 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_88 : BitVec 32 := 1#32
  let v88 : BitVec 32 := Scalar.muli v5 c1_i32_88
  let v89 : BitVec 32 := Scalar.addi c0_i32_89 v88
  v89.toNat
def k0_dev5 (d0 : Dev nD) : Nat :=
  let c0_i32_110 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_109 : BitVec 32 := 1#32
  let v107 : BitVec 32 := Scalar.muli v7 c1_i32_109
  let v108 : BitVec 32 := Scalar.addi c0_i32_110 v107
  v108.toNat
def k0_dev6 (d0 : Dev nD) : Nat :=
  let c0_i32_131 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_130 : BitVec 32 := 1#32
  let v126 : BitVec 32 := Scalar.muli v5 c1_i32_130
  let v127 : BitVec 32 := Scalar.addi c0_i32_131 v126
  v127.toNat
def k0_dev7 (d0 : Dev nD) : Nat :=
  let c0_i32_152 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_151 : BitVec 32 := 1#32
  let v145 : BitVec 32 := Scalar.muli v7 c1_i32_151
  let v146 : BitVec 32 := Scalar.addi c0_i32_152 v145
  v146.toNat
def k0_dev8 (d0 : Dev nD) : Nat :=
  let c0_i32_172 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_171 : BitVec 32 := 1#32
  let v164 : BitVec 32 := Scalar.muli v5 c1_i32_171
  let v165 : BitVec 32 := Scalar.addi c0_i32_172 v164
  v165.toNat
def k0_dev9 (d0 : Dev nD) : Nat :=
  let c0_i32_192 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_191 : BitVec 32 := 1#32
  let v183 : BitVec 32 := Scalar.muli v7 c1_i32_191
  let v184 : BitVec 32 := Scalar.addi c0_i32_192 v183
  v184.toNat
def k0_dev10 (d0 : Dev nD) : Nat :=
  let c0_i32_212 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_211 : BitVec 32 := 1#32
  let v202 : BitVec 32 := Scalar.muli v5 c1_i32_211
  let v203 : BitVec 32 := Scalar.addi c0_i32_212 v202
  v203.toNat
def k0_dev11 (d0 : Dev nD) : Nat :=
  let c0_i32_256 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_255 : BitVec 32 := 1#32
  let v238 : BitVec 32 := Scalar.muli v5 c1_i32_255
  let v239 : BitVec 32 := Scalar.addi c0_i32_256 v238
  v239.toNat
def k0_dev12 (d0 : Dev nD) : Nat :=
  let c0_i32_277 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_276 : BitVec 32 := 1#32
  let v250 : BitVec 32 := Scalar.muli v7 c1_i32_276
  let v251 : BitVec 32 := Scalar.addi c0_i32_277 v250
  v251.toNat
def k0_dev13 (d0 : Dev nD) : Nat :=
  let c0_i32_316 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_315 : BitVec 32 := 1#32
  let v281 : BitVec 32 := Scalar.muli v7 c1_i32_315
  let v282 : BitVec 32 := Scalar.addi c0_i32_316 v281
  v282.toNat
def k0_dev14 (d0 : Dev nD) : Nat :=
  let c0_i32_337 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_336 : BitVec 32 := 1#32
  let v293 : BitVec 32 := Scalar.muli v5 c1_i32_336
  let v294 : BitVec 32 := Scalar.addi c0_i32_337 v293
  v294.toNat
def k0_dev15 (d0 : Dev nD) : Nat :=
  let c0_i32_376 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_375 : BitVec 32 := 1#32
  let v324 : BitVec 32 := Scalar.muli v5 c1_i32_375
  let v325 : BitVec 32 := Scalar.addi c0_i32_376 v324
  v325.toNat
def k0_dev16 (d0 : Dev nD) : Nat :=
  let c0_i32_397 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_396 : BitVec 32 := 1#32
  let v336 : BitVec 32 := Scalar.muli v7 c1_i32_396
  let v337 : BitVec 32 := Scalar.addi c0_i32_397 v336
  v337.toNat
def k0_dev17 (d0 : Dev nD) : Nat :=
  let c0_i32_436 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_435 : BitVec 32 := 1#32
  let v367 : BitVec 32 := Scalar.muli v7 c1_i32_435
  let v368 : BitVec 32 := Scalar.addi c0_i32_436 v367
  v368.toNat
def k0_dev18 (d0 : Dev nD) : Nat :=
  let c0_i32_457 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_456 : BitVec 32 := 1#32
  let v379 : BitVec 32 := Scalar.muli v5 c1_i32_456
  let v380 : BitVec 32 := Scalar.addi c0_i32_457 v379
  v380.toNat
def k0_dev19 (d0 : Dev nD) : Nat :=
  let c0_i32_496 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_495 : BitVec 32 := 1#32
  let v410 : BitVec 32 := Scalar.muli v5 c1_i32_495
  let v411 : BitVec 32 := Scalar.addi c0_i32_496 v410
  v411.toNat
def k0_dev20 (d0 : Dev nD) : Nat :=
  let c0_i32_517 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_516 : BitVec 32 := 1#32
  let v422 : BitVec 32 := Scalar.muli v7 c1_i32_516
  let v423 : BitVec 32 := Scalar.addi c0_i32_517 v422
  v423.toNat
def k0_dev21 (d0 : Dev nD) : Nat :=
  let c0_i32_556 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_555 : BitVec 32 := 1#32
  let v453 : BitVec 32 := Scalar.muli v7 c1_i32_555
  let v454 : BitVec 32 := Scalar.addi c0_i32_556 v453
  v454.toNat
def k0_dev22 (d0 : Dev nD) : Nat :=
  let c0_i32_577 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_576 : BitVec 32 := 1#32
  let v465 : BitVec 32 := Scalar.muli v5 c1_i32_576
  let v466 : BitVec 32 := Scalar.addi c0_i32_577 v465
  v466.toNat
def k0_dev23 (d0 : Dev nD) : Nat :=
  let c0_i32_616 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_615 : BitVec 32 := 1#32
  let v496 : BitVec 32 := Scalar.muli v5 c1_i32_615
  let v497 : BitVec 32 := Scalar.addi c0_i32_616 v496
  v497.toNat
def k0_dev24 (d0 : Dev nD) : Nat :=
  let c0_i32_637 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_636 : BitVec 32 := 1#32
  let v508 : BitVec 32 := Scalar.muli v7 c1_i32_636
  let v509 : BitVec 32 := Scalar.addi c0_i32_637 v508
  v509.toNat
def k0_dev25 (d0 : Dev nD) : Nat :=
  let c0_i32_676 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_675 : BitVec 32 := 1#32
  let v539 : BitVec 32 := Scalar.muli v7 c1_i32_675
  let v540 : BitVec 32 := Scalar.addi c0_i32_676 v539
  v540.toNat
def k0_dev26 (d0 : Dev nD) : Nat :=
  let c0_i32_697 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_696 : BitVec 32 := 1#32
  let v551 : BitVec 32 := Scalar.muli v5 c1_i32_696
  let v552 : BitVec 32 := Scalar.addi c0_i32_697 v551
  v552.toNat
def k0_dev27 (d0 : Dev nD) : Nat :=
  let c0_i32_736 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_735 : BitVec 32 := 1#32
  let v582 : BitVec 32 := Scalar.muli v5 c1_i32_735
  let v583 : BitVec 32 := Scalar.addi c0_i32_736 v582
  v583.toNat
def k0_dev28 (d0 : Dev nD) : Nat :=
  let c0_i32_757 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_756 : BitVec 32 := 1#32
  let v594 : BitVec 32 := Scalar.muli v7 c1_i32_756
  let v595 : BitVec 32 := Scalar.addi c0_i32_757 v594
  v595.toNat
def k0_dev29 (d0 : Dev nD) : Nat :=
  let c0_i32_796 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_795 : BitVec 32 := 1#32
  let v625 : BitVec 32 := Scalar.muli v7 c1_i32_795
  let v626 : BitVec 32 := Scalar.addi c0_i32_796 v625
  v626.toNat
def k0_dev30 (d0 : Dev nD) : Nat :=
  let c0_i32_817 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_816 : BitVec 32 := 1#32
  let v637 : BitVec 32 := Scalar.muli v5 c1_i32_816
  let v638 : BitVec 32 := Scalar.addi c0_i32_817 v637
  v638.toNat
def k0_dev31 (d0 : Dev nD) : Nat :=
  let c0_i32_856 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_855 : BitVec 32 := 1#32
  let v668 : BitVec 32 := Scalar.muli v5 c1_i32_855
  let v669 : BitVec 32 := Scalar.addi c0_i32_856 v668
  v669.toNat
def k0_dev32 (d0 : Dev nD) : Nat :=
  let c0_i32_877 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_876 : BitVec 32 := 1#32
  let v680 : BitVec 32 := Scalar.muli v7 c1_i32_876
  let v681 : BitVec 32 := Scalar.addi c0_i32_877 v680
  v681.toNat
def k0_dev33 (d0 : Dev nD) : Nat :=
  let c0_i32_916 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_915 : BitVec 32 := 1#32
  let v711 : BitVec 32 := Scalar.muli v7 c1_i32_915
  let v712 : BitVec 32 := Scalar.addi c0_i32_916 v711
  v712.toNat
def k0_dev34 (d0 : Dev nD) : Nat :=
  let c0_i32_937 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_936 : BitVec 32 := 1#32
  let v723 : BitVec 32 := Scalar.muli v5 c1_i32_936
  let v724 : BitVec 32 := Scalar.addi c0_i32_937 v723
  v724.toNat
def k0_dev35 (d0 : Dev nD) : Nat :=
  let c0_i32_976 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_975 : BitVec 32 := 1#32
  let v754 : BitVec 32 := Scalar.muli v5 c1_i32_975
  let v755 : BitVec 32 := Scalar.addi c0_i32_976 v754
  v755.toNat
def k0_dev36 (d0 : Dev nD) : Nat :=
  let c0_i32_997 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_996 : BitVec 32 := 1#32
  let v766 : BitVec 32 := Scalar.muli v7 c1_i32_996
  let v767 : BitVec 32 := Scalar.addi c0_i32_997 v766
  v767.toNat
def k0_dev37 (d0 : Dev nD) : Nat :=
  let c0_i32_1036 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1035 : BitVec 32 := 1#32
  let v797 : BitVec 32 := Scalar.muli v7 c1_i32_1035
  let v798 : BitVec 32 := Scalar.addi c0_i32_1036 v797
  v798.toNat
def k0_dev38 (d0 : Dev nD) : Nat :=
  let c0_i32_1057 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1056 : BitVec 32 := 1#32
  let v809 : BitVec 32 := Scalar.muli v5 c1_i32_1056
  let v810 : BitVec 32 := Scalar.addi c0_i32_1057 v809
  v810.toNat
def k0_dev39 (d0 : Dev nD) : Nat :=
  let c0_i32_1096 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1095 : BitVec 32 := 1#32
  let v840 : BitVec 32 := Scalar.muli v5 c1_i32_1095
  let v841 : BitVec 32 := Scalar.addi c0_i32_1096 v840
  v841.toNat
def k0_dev40 (d0 : Dev nD) : Nat :=
  let c0_i32_1117 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1116 : BitVec 32 := 1#32
  let v852 : BitVec 32 := Scalar.muli v7 c1_i32_1116
  let v853 : BitVec 32 := Scalar.addi c0_i32_1117 v852
  v853.toNat
def k0_dev41 (d0 : Dev nD) : Nat :=
  let c0_i32_1156 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_3 : BitVec 32 := 1#32
  let v6 : BitVec 32 := Scalar.addi v2 c1_i32_3
  let c4_i32_4 : BitVec 32 := 4#32
  let v7 : BitVec 32 := Scalar.remsi v6 c4_i32_4
  let c1_i32_1155 : BitVec 32 := 1#32
  let v883 : BitVec 32 := Scalar.muli v7 c1_i32_1155
  let v884 : BitVec 32 := Scalar.addi c0_i32_1156 v883
  v884.toNat
def k0_dev42 (d0 : Dev nD) : Nat :=
  let c0_i32_1177 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c4_i32_0 : BitVec 32 := 4#32
  let v3 : BitVec 32 := Scalar.addi v2 c4_i32_0
  let c1_i32_1 : BitVec 32 := 1#32
  let v4 : BitVec 32 := Scalar.subi v3 c1_i32_1
  let c4_i32_2 : BitVec 32 := 4#32
  let v5 : BitVec 32 := Scalar.remsi v4 c4_i32_2
  let c1_i32_1176 : BitVec 32 := 1#32
  let v895 : BitVec 32 := Scalar.muli v5 c1_i32_1176
  let v896 : BitVec 32 := Scalar.addi c0_i32_1177 v895
  v896.toNat
abbrev stage0_0 : Fin 1 → Memref sig .tc .vmem S1024x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== Reference.lean ====
abbrev S4096x4096 : Shape := ⟨2, ![4096, 4096]⟩
abbrev S4096x2048 : Shape := ⟨2, ![4096, 2048]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S1, .f32⟩
  | .hbm, ⟨3, _⟩ => ⟨S1, .f32⟩
  | .hbm, ⟨4, _⟩ => ⟨S4096x2048, .f32⟩
  | .local _ .vmem, ⟨0, _⟩ => ⟨S4096x4096, .f32⟩
  | .local _ .vmem, ⟨1, _⟩ => ⟨S4096x2048, .f32⟩
  | .local _ .vmem, ⟨2, _⟩ => ⟨S4096x2048, .f32⟩
  | .local _ .smem, ⟨0, _⟩ => ⟨S1, .f32⟩
  | .local _ .smem, ⟨1, _⟩ => ⟨S1, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
variable {F : FTy → Type} [FloatOps F] [Named F]
def κ : String → Option EReal := fun
  | "clip_hi" => some ⊤
  | "clip_lo" => some ⊥
  | _ => none
-- ==== Proof.Flat.lean ====
module

public import proofs.«01_k».proof.Proof.Gen.KernelIdeal.Launch
public import proofs.«01_k».proof.Proof.Gen.KernelIdeal.Skeleton

/-! The kernel's body as one sequence of blocks: a prologue, eight seeds, two rounds of eight hops, eight final steps
    and the closing waits. Each block is generic in its stream. -/

@[expose] public section

noncomputable section

namespace Cert.KernelIdeal.Ring

open Idealize.ShloMosaic Idealize.SL.Sem Cert.KernelIdeal.Gen

variable {F : FTy → Type} [FloatOps F]

/-! ## Memrefs and semaphores of a stream -/

theorem slot_inb (q : Fin 8) (b : Fin 2) : ∀ a, (![q.val, b.val, 0, 0] : Fin 4 → Nat) a + S1x1x1024x256.size a ≤ S8x2x1024x256.size a := by
  revert q b; decide
theorem sem2_inb (q : Fin 8) (b : Fin 2) : ∀ a, (![q.val, b.val] : Fin 2 → Nat) a + S1x1.size a ≤ S8x2.size a := by
  revert q b; decide
theorem free_inb (q : Fin 8) : ∀ a, (![q.val] : Fin 1 → Nat) a + S1.size a ≤ S8.size a := by revert q; decide
theorem xsem_inb (i : Fin 4) : ∀ a, (![i.val] : Fin 1 → Nat) a + S1.size a ≤ S4.size a := by revert i; decide
theorem xslot_inb (i : Fin 4) : ∀ a, (![i.val, 0, 0] : Fin 3 → Nat) a + S1x1024x1024.size a ≤ S4x1024x1024.size a := by
  revert i; decide

/-- The first column of stream `q`'s block: the even streams cover the left half, the odd ones the right half. -/
abbrev colN (q : ℕ) : ℕ := q / 2 * 256 + q % 2 * 1024
theorem col_inb (q : Fin 8) : ∀ a, (![0, colN q.val] : Fin 2 → Nat) a + S1024x256.size a ≤ S1024x2048.size a := by
  revert q; decide
theorem col_slices (q : Fin 8) : S1024x2048.Slices ![0, colN q.val] S1024x256 := by
  revert q; decide

abbrev slotR (q : Fin 8) (b : Fin 2) : Rect S8x2x1024x256 :=
  Rect.unit (s := S8x2x1024x256) ![q.val, b.val, 0, 0] S1x1x1024x256.size (slot_inb q b)
abbrev xslotR (i : Fin 4) : Rect S4x1024x1024 :=
  Rect.unit (s := S4x1024x1024) ![i.val, 0, 0] S1x1024x1024.size (xslot_inb i)
abbrev colR (q : Fin 8) : Rect S1024x2048 :=
  Rect.unit (s := S1024x2048) ![0, colN q.val] S1024x256.size (col_inb q)

/-- Where device `d`'s row block for slot `i` of the operand buffer starts. -/
abbrev xoff (d : Dev nD) (i : Fin 4) : Fin 2 → ℕ :=
  match i.val with
  | 0 => k0_off1 d
  | 1 => k0_off2 d 1#32
  | 2 => k0_off2 d 2#32
  | _ => k0_off3 d
theorem xoff_inb (d : Dev nD) (i : Fin 4) : ∀ a, xoff d i a + S1024x1024.size a ≤ S4096x1024.size a := by
  revert d i; decide +kernel
abbrev xsrcR (d : Dev nD) (i : Fin 4) : Rect S4096x1024 :=
  Rect.unit (s := S4096x1024) (xoff d i) S1024x1024.size (xoff_inb d i)

abbrev comm : Memref sig .tc .vmem S8x2x1024x256 .bf16 := Memref.whole cc0_scratch0
abbrev xbuf : Memref sig .tc .vmem S4x1024x1024 .f32 := Memref.whole cc0_scratch1
abbrev obuf : Memref sig .tc .vmem S1024x2048 .f32 := Memref.whole cc0_scratch2
abbrev xin : Memref sig .tc .hbm S4096x1024 .f32 := Memref.whole main_arg0
abbrev res : Memref sig .tc .hbm S1024x2048 .f32 := Memref.whole main_v1
abbrev wst : Memref sig .tc .vmem S1024x2048 .f32 := Memref.whole cc0_stg0_0
abbrev sxst : Memref sig .tc .smem S1 .f32 := Memref.whole cc0_stg1_0
abbrev swst : Memref sig .tc .smem S1 .f32 := Memref.whole cc0_stg2_0

abbrev slot (q : Fin 8) (b : Fin 2) : Memref sig .tc .vmem S1024x256 .bf16 :=
  (comm.slice (slotR q b) (fun _ => rfl)).squeeze S1024x256 squeezes_S1x1x1024x256_S1024x256
abbrev xslot (i : Fin 4) : Memref sig .tc .vmem S1024x1024 .f32 :=
  (xbuf.slice (xslotR i) (fun _ => rfl)).squeeze S1024x1024 squeezes_S1x1024x1024_S1024x1024
abbrev xsrc (d : Dev nD) (i : Fin 4) : Memref sig .tc .hbm S1024x1024 .f32 := xin.slice (xsrcR d i) (fun _ => rfl)
abbrev ocol (q : Fin 8) : Memref sig .tc .vmem S1024x256 .f32 := obuf.slice (colR q) (fun _ => rfl)
abbrev rcol (q : Fin 8) : Memref sig .tc .hbm S1024x256 .f32 := res.slice (colR q) (fun _ => rfl)

abbrev sndS (q : Fin 8) (b : Fin 2) : DmaSem sig :=
  ((cc0_scratch3.slice (Rect.unit (s := S8x2) ![q.val, b.val] S1x1.size (sem2_inb q b))).squeeze S_ squeezes_S1x1_S_).sem
abbrev rcvS (q : Fin 8) (b : Fin 2) : DmaSem sig :=
  ((cc0_scratch4.slice (Rect.unit (s := S8x2) ![q.val, b.val] S1x1.size (sem2_inb q b))).squeeze S_ squeezes_S1x1_S_).sem
abbrev freS (q : Fin 8) : Sem sig :=
  ((cc0_scratch7.slice (Rect.unit (s := S8) ![q.val] S1.size (free_inb q))).squeeze S_ squeezes_S1_S_).sem
abbrev xS (i : Fin 4) : DmaSem sig :=
  ((cc0_scratch5.slice (Rect.unit (s := S4) ![i.val] S1.size (xsem_inb i))).squeeze S_ squeezes_S1_S_).sem
abbrev outS : DmaSem sig := cc0_scratch6.sem
abbrev barS : Sem sig := (SemArray.scalar (sig.barrier 0 rfl) : Sems sig S_).sem

theorem slotWords (q : Fin 8) (b : Fin 2) : (slotR q b).WholeWords (EltTy.packing .bf16) := by
  revert q b; decide
theorem slotPacked (q : Fin 8) (b : Fin 2) : (slotR q b).PackedRows (EltTy.packing .bf16) := by
  revert q b; decide
theorem slotExact (q : Fin 8) (b : Fin 2) : (slot q b).view.WordExact :=
  ((Memref.isWhole_whole cc0_scratch0).wordExact_slice rfl _ (slotWords q b)).reshape _ _

/-! ## The values computed -/

/-- A device's partial product for one stream's columns, from the operand block read and the rounded weights. -/
def part (w8 : FVec F S1024x2048 .fp8e5m2) (q : Fin 8) (v : Vec F S1x1024x1024 .f32) : FVec F S1024x256 .f32 :=
  matmul dot_S1024x1024_S1024x256_S1024x256_1_0_0_1_n_n none
    (truncf .fp8e5m2 (shapeCast S1024x1024 v shapeCasts_S1x1024x1024_S1024x1024) bitsLt_fp8e5m2_f32)
    (extractStridedSlice S1024x256 ![0, colN q.val] w8 (col_slices q))
    (constant S1024x256 .f32 0x00000000#32)

/-- What a stream starts from. -/
def seedPay (w8 : FVec F S1024x2048 .fp8e5m2) (q : Fin 8) (v : Vec F S1x1024x1024 .f32) : FVec F S1x1x1024x256 .bf16 :=
  shapeCast S1x1x1024x256 (truncf .bf16 (part w8 q v) bitsLt_bf16_f32) shapeCasts_S1024x256_S1x1x1024x256

/-- The running sum received, unpacked and added to the device's own product. -/
def sumUp (w8 : FVec F S1024x2048 .fp8e5m2) (q : Fin 8) (v : Vec F S1x1024x1024 .f32) (r : Vec F S1x1x1024x256 .bf16) :
    FVec F S1024x256 .f32 :=
  addf (extf .f32 (shapeCast S1024x256 r shapeCasts_S1x1x1024x256_S1024x256) bitsLt_bf16_f32) (part w8 q v)

/-- What a middle hop passes on. -/
def midPay (w8 : FVec F S1024x2048 .fp8e5m2) (q : Fin 8) (v : Vec F S1x1024x1024 .f32) (r : Vec F S1x1x1024x256 .bf16) :
    FVec F S1x1x1024x256 .bf16 :=
  shapeCast S1x1x1024x256 (truncf .bf16 (sumUp w8 q v r) bitsLt_bf16_f32) shapeCasts_S1024x256_S1x1x1024x256

/-- What the last step stores: the scaled sum times its logistic. -/
def finPay (w8 : FVec F S1024x2048 .fp8e5m2) (s : F .f32) (q : Fin 8) (v : Vec F S1x1024x1024 .f32)
    (r : Vec F S1x1x1024x256 .bf16) : FVec F S1024x256 .f32 :=
  let y := mulf (sumUp w8 q v r) (broadcast S1024x256 s)
  shapeCast S1024x256 (mulf y (logistic y)) shapeCasts_S1024x256_S1024x256

/-! ## The blocks -/

abbrev TcProg (F : FTy → Type) (α : Type) := Prog (TpuEff nD τ sig (Elt F) Λ₀ .tc) α

def fetchX (d : Dev nD) (i : Fin 4) : TcProg F PUnit :=
  Prog.lift (.enqueueDma (xsrc d i) (.here (xslot i)) (.dma (xS i)) (View.wordExact_bits rfl)
    ((View.wordExact_bits rfl).reshape _ _) ⟨Or.inl rfl, trivial⟩)

def waitX (d : Dev nD) (i : Fin 4) : TcProg F PUnit :=
  Prog.lift (.waitDma2 (xS i) (xsrc d i) (xslot i) (View.wordExact_bits rfl) ((View.wordExact_bits rfl).reshape _ _))

def loadX (i : Fin 4) : TcProg F (Vec F S1x1024x1024 .f32) :=
  Prog.lift (.load xbuf (xslotR i).toLoadRect (View.loadsAt_vmem h_S1x1024x1024))

def loadC (q : Fin 8) (b : Fin 2) : TcProg F (Vec F S1x1x1024x256 .bf16) :=
  Prog.lift (.load comm (slotR q b).toLoadRect (View.loadsAt_vmem h_S1x1x1024x256))

def storeC (q : Fin 8) (b : Fin 2) (w : FVec F S1x1x1024x256 .bf16) : TcProg F PUnit :=
  Prog.lift (.store comm (slotR q b) w Finset.univ
    (View.stores_vmem h_S1x1x1024x256 ((Memref.isWhole_whole cc0_scratch0).storeExact_slice rfl _ (slotPacked q b)) (fun _ => rfl))
    (.inl rfl))

def sendC (q : Fin 8) (b b' : Fin 2) (dst : Dev nD) : TcProg F PUnit :=
  Prog.lift (.enqueueDma (slot q b) (.remote (Dev.tc dst) (slot q b') (.dma (sndS q b))) (.dma (rcvS q b'))
    (slotExact q b) (slotExact q b') ⟨⟨rfl, Or.inl rfl⟩, trivial⟩)

def waitR (q : Fin 8) (b b' : Fin 2) : TcProg F PUnit :=
  Prog.lift (.waitDma2 (rcvS q b) (slot q b') (slot q b) (slotExact q b') (slotExact q b))

def waitS (q : Fin 8) (b b' : Fin 2) : TcProg F PUnit :=
  Prog.lift (.waitDma2 (sndS q b) (slot q b') (slot q b) (slotExact q b') (slotExact q b))

def seedBlk (w8 : FVec F S1024x2048 .fp8e5m2) (q : Fin 8) (i : Fin 4) (dst : Dev nD) : TcProg F PUnit := do
  let v ← loadX i
  let _u ← loadC q 0
  storeC q 0 (seedPay w8 q v)
  sendC q 0 1 dst

/-- A middle hop: the slot `b` was received into, slot `b'` sent from. -/
def midBlk (w8 : FVec F S1024x2048 .fp8e5m2) (q : Fin 8) (b b' : Fin 2) (i : Fin 4) (ups dst : Dev nD) : TcProg F PUnit := do
  let v ← loadX i
  waitR q b b'
  waitS q b' b
  semSignalWord ups (freS q) 1#32
  let r ← loadC q b
  let _u ← loadC q b
  storeC q b (midPay w8 q v r)
  semWaitWord (freS q) 1#32
  sendC q b b' dst

def finBlk (w8 : FVec F S1024x2048 .fp8e5m2) (s : F .f32) (q : Fin 8) : TcProg F PUnit := do
  let v ← loadX 3
  waitR q 1 0
  waitS q 0 1
  let r ← loadC q 1
  let _u : Vec F S1024x256 .f32 ← Prog.lift (.load obuf (colR q).toLoadRect (View.loadsAt_vmem h_S1024x256))
  Prog.lift (.store obuf (colR q) (finPay w8 s q v r) Finset.univ (View.stores_vmem_bits_univ h_S1024x256 rfl) (.inl rfl))
  Prog.lift (.enqueueDma (ocol q) (.here (rcol q)) (.dma outS) (View.wordExact_bits rfl) (View.wordExact_bits rfl)
    ⟨Or.inl rfl, trivial⟩)

def waitO (q : Fin 8) : TcProg F PUnit :=
  Prog.lift (.waitDma2 outS (ocol q) (rcol q) (View.wordExact_bits rfl) (View.wordExact_bits rfl))

def pro (d : Dev nD) : TcProg F (Σ' (_ : FVec F S1024x2048 .fp8e5m2), F .f32) := do
  fetchX d 0
  fetchX d 1
  fetchX d 2
  fetchX d 3
  semSignalWord (⟨k0_dev1 d, k0_dev1_lt d⟩ : Dev nD) barS 1#32
  semSignalWord (⟨k0_dev2 d, k0_dev2_lt d⟩ : Dev nD) barS 1#32
  semWaitWord barS 2#32
  let w : Vec F S1024x2048 .f32 ← Prog.lift (.load wst (Rect.unit (s := S1024x2048) ![0, 0] S1024x2048.size inb_S1024x2048_S1024x2048_0_0).toLoadRect (View.loadsAt_vmem h_S1024x2048))
  let sx : Elt F .f32 ← smemLoad sxst (Rect.unit (s := S1) ![0] S1.size inb_S1_S1_0) numel1_S1 rfl
  let sw : Elt F .f32 ← smemLoad swst (Rect.unit (s := S1) ![0] S1.size inb_S1_S1_0) numel1_S1 rfl
  pure ⟨k0_pay1 w, k0_pay2 sx sw⟩

def seeds (d : Dev nD) (w8 : FVec F S1024x2048 .fp8e5m2) : TcProg F PUnit := do
  waitX d 0
  seedBlk w8 ⟨0, by decide⟩ 0 ⟨k0_dev3 d, k0_dev3_lt d⟩
  waitX d 1
  seedBlk w8 ⟨1, by decide⟩ 1 ⟨k0_dev4 d, k0_dev4_lt d⟩
  seedBlk w8 ⟨2, by decide⟩ 0 ⟨k0_dev5 d, k0_dev5_lt d⟩
  seedBlk w8 ⟨3, by decide⟩ 1 ⟨k0_dev6 d, k0_dev6_lt d⟩
  seedBlk w8 ⟨4, by decide⟩ 0 ⟨k0_dev7 d, k0_dev7_lt d⟩
  seedBlk w8 ⟨5, by decide⟩ 1 ⟨k0_dev8 d, k0_dev8_lt d⟩
  seedBlk w8 ⟨6, by decide⟩ 0 ⟨k0_dev9 d, k0_dev9_lt d⟩
  seedBlk w8 ⟨7, by decide⟩ 1 ⟨k0_dev10 d, k0_dev10_lt d⟩

def mids0 (d : Dev nD) (w8 : FVec F S1024x2048 .fp8e5m2) : TcProg F PUnit := do
  waitX d 2
  midBlk w8 ⟨0, by decide⟩ 1 0 2 ⟨k0_dev11 d, k0_dev11_lt d⟩ ⟨k0_dev12 d, k0_dev12_lt d⟩
  midBlk w8 ⟨1, by decide⟩ 1 0 2 ⟨k0_dev13 d, k0_dev13_lt d⟩ ⟨k0_dev14 d, k0_dev14_lt d⟩
  midBlk w8 ⟨2, by decide⟩ 1 0 2 ⟨k0_dev15 d, k0_dev15_lt d⟩ ⟨k0_dev16 d, k0_dev16_lt d⟩
  midBlk w8 ⟨3, by decide⟩ 1 0 2 ⟨k0_dev17 d, k0_dev17_lt d⟩ ⟨k0_dev18 d, k0_dev18_lt d⟩
  midBlk w8 ⟨4, by decide⟩ 1 0 2 ⟨k0_dev19 d, k0_dev19_lt d⟩ ⟨k0_dev20 d, k0_dev20_lt d⟩
  midBlk w8 ⟨5, by decide⟩ 1 0 2 ⟨k0_dev21 d, k0_dev21_lt d⟩ ⟨k0_dev22 d, k0_dev22_lt d⟩
  midBlk w8 ⟨6, by decide⟩ 1 0 2 ⟨k0_dev23 d, k0_dev23_lt d⟩ ⟨k0_dev24 d, k0_dev24_lt d⟩
  midBlk w8 ⟨7, by decide⟩ 1 0 2 ⟨k0_dev25 d, k0_dev25_lt d⟩ ⟨k0_dev26 d, k0_dev26_lt d⟩

def mids1 (d : Dev nD) (w8 : FVec F S1024x2048 .fp8e5m2) : TcProg F PUnit := do
  midBlk w8 ⟨0, by decide⟩ 0 1 1 ⟨k0_dev27 d, k0_dev27_lt d⟩ ⟨k0_dev28 d, k0_dev28_lt d⟩
  midBlk w8 ⟨1, by decide⟩ 0 1 0 ⟨k0_dev29 d, k0_dev29_lt d⟩ ⟨k0_dev30 d, k0_dev30_lt d⟩
  midBlk w8 ⟨2, by decide⟩ 0 1 1 ⟨k0_dev31 d, k0_dev31_lt d⟩ ⟨k0_dev32 d, k0_dev32_lt d⟩
  midBlk w8 ⟨3, by decide⟩ 0 1 0 ⟨k0_dev33 d, k0_dev33_lt d⟩ ⟨k0_dev34 d, k0_dev34_lt d⟩
  midBlk w8 ⟨4, by decide⟩ 0 1 1 ⟨k0_dev35 d, k0_dev35_lt d⟩ ⟨k0_dev36 d, k0_dev36_lt d⟩
  midBlk w8 ⟨5, by decide⟩ 0 1 0 ⟨k0_dev37 d, k0_dev37_lt d⟩ ⟨k0_dev38 d, k0_dev38_lt d⟩
  midBlk w8 ⟨6, by decide⟩ 0 1 1 ⟨k0_dev39 d, k0_dev39_lt d⟩ ⟨k0_dev40 d, k0_dev40_lt d⟩
  midBlk w8 ⟨7, by decide⟩ 0 1 0 ⟨k0_dev41 d, k0_dev41_lt d⟩ ⟨k0_dev42 d, k0_dev42_lt d⟩

def fins (d : Dev nD) (w8 : FVec F S1024x2048 .fp8e5m2) (s : F .f32) : TcProg F PUnit := do
  waitX d 3
  finBlk w8 s ⟨0, by decide⟩
  finBlk w8 s ⟨1, by decide⟩
  finBlk w8 s ⟨2, by decide⟩
  finBlk w8 s ⟨3, by decide⟩
  finBlk w8 s ⟨4, by decide⟩
  finBlk w8 s ⟨5, by decide⟩
  finBlk w8 s ⟨6, by decide⟩
  finBlk w8 s ⟨7, by decide⟩

def outs : TcProg F PUnit := do
  waitO ⟨0, by decide⟩
  waitO ⟨1, by decide⟩
  waitO ⟨2, by decide⟩
  waitO ⟨3, by decide⟩
  waitO ⟨4, by decide⟩
  waitO ⟨5, by decide⟩
  waitO ⟨6, by decide⟩
  waitO ⟨7, by decide⟩

def flat : TcProg F PUnit := do
  let d ← Prog.lift .deviceId
  let ⟨w8, s⟩ ← pro d
  seeds d w8
  mids0 d w8
  mids1 d w8
  fins d w8 s
  outs

end Cert.KernelIdeal.Ring
-- ==== Proof.Proto.lean ====
module

public import proofs.«01_k».proof.Proof.Flat
public import Idealize.ShloMosaic.Lib.Pipeline.Launch
public import Idealize.ShloMosaic.Lib.Pipeline.Kit
public import Idealize.ShloMosaic.Lib.Rounds.Family
public import Idealize.ShloMosaic.Lib.ViewIndex
public import Idealize.ShloMosaic.Lib.Tactic

/-! The protocol: the semaphores, the rounds of each, what each round hands over, and the order in which a device may
    wait. -/

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

abbrev UB : Type := URounds (GSem nD τ sig) (Fin 8)
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

/-! ## The ring -/

set_option backward.proofsInPublic true in
def nxt (c : Dev nD) : Dev nD := ⟨(c.val + 1) % 4, Nat.mod_lt _ (by decide)⟩
set_option backward.proofsInPublic true in
def prv (c : Dev nD) : Dev nD := ⟨(c.val + 3) % 4, Nat.mod_lt _ (by decide)⟩

theorem prv_nxt (c : Dev nD) : prv (nxt c) = c := by revert c; decide
theorem nxt_prv (c : Dev nD) : nxt (prv c) = c := by revert c; decide
theorem nxt_ne_prv (c : Dev nD) : nxt c ≠ prv c := by revert c; decide

def ring : Dev nD ≃ Dev nD := ⟨nxt, prv, prv_nxt, nxt_prv⟩

/-- Where stream `q` of device `c` sends: the even streams to the next device, the odd ones to the one before. -/
def dst (q : Fin 8) (c : Dev nD) : Dev nD := if q.val % 2 = 0 then nxt c else prv c
/-- Whom it receives from. -/
def ups (q : Fin 8) (c : Dev nD) : Dev nD := if q.val % 2 = 0 then prv c else nxt c

theorem ups_dst (q : Fin 8) (c : Dev nD) : ups q (dst q c) = c := by revert q c; decide
theorem dst_ups (q : Fin 8) (c : Dev nD) : dst q (ups q c) = c := by revert q c; decide
def around (q : Fin 8) : Dev nD ≃ Dev nD := ⟨dst q, ups q, ups_dst q, dst_ups q⟩

/-! ## The semaphores -/

/-- The kernel's semaphores: the barrier, a send and a receive semaphore per stream and slot, one per stream for a slot
    freed, one per row block of the operand, and one for the output. -/
inductive Key where
  | bar
  | snd (q : Fin 8) (b : Fin 2)
  | rcv (q : Fin 8) (b : Fin 2)
  | fre (q : Fin 8)
  | xin (i : Fin 4)
  | out
  deriving DecidableEq

abbrev KeyRep : Type := Unit ⊕ (Fin 8 × Fin 2) ⊕ (Fin 8 × Fin 2) ⊕ Fin 8 ⊕ Fin 4 ⊕ Unit
def keyEquiv : KeyRep ≃ Key where
  toFun := fun
    | .inl _ => .bar
    | .inr (.inl x) => .snd x.1 x.2
    | .inr (.inr (.inl x)) => .rcv x.1 x.2
    | .inr (.inr (.inr (.inl q))) => .fre q
    | .inr (.inr (.inr (.inr (.inl i)))) => .xin i
    | .inr (.inr (.inr (.inr (.inr _)))) => .out
  invFun := fun
    | .bar => .inl ()
    | .snd q b => .inr (.inl (q, b))
    | .rcv q b => .inr (.inr (.inl (q, b)))
    | .fre q => .inr (.inr (.inr (.inl q)))
    | .xin i => .inr (.inr (.inr (.inr (.inl i))))
    | .out => .inr (.inr (.inr (.inr (.inr ()))))
  left_inv := by rintro (_ | _ | _ | _ | _ | _) <;> rfl
  right_inv := by rintro (_ | _ | _ | _ | _ | _) <;> rfl
instance : Fintype Key := Fintype.ofEquiv KeyRep keyEquiv

def csem : Key → SemLoc sig
  | .bar => .reg barS
  | .snd q b => .dma (sndS q b)
  | .rcv q b => .dma (rcvS q b)
  | .fre q => .reg (freS q)
  | .xin i => .dma (xS i)
  | .out => .dma outS

theorem barS_val : (barS : Sem sig).val = 8 := by decide
theorem sndS_val (q : Fin 8) (b : Fin 2) : (sndS q b : DmaSem sig).val = 3 + (2 * q.val + b.val) := by revert q b; decide +kernel
theorem rcvS_val (q : Fin 8) (b : Fin 2) : (rcvS q b : DmaSem sig).val = 19 + (2 * q.val + b.val) := by revert q b; decide +kernel
theorem freS_val (q : Fin 8) : (freS q : Sem sig).val = q.val := by revert q; decide +kernel
theorem xS_val (i : Fin 4) : (xS i : DmaSem sig).val = 35 + i.val := by revert i; decide +kernel
theorem outS_val : (outS : DmaSem sig).val = 39 := by decide +kernel

/-- A number for each semaphore: the regular ones first. -/
def semNo : SemLoc sig → ℕ
  | .reg s => s.val
  | .dma s => 9 + s.val

def keyNo : Key → ℕ
  | .bar => 8
  | .snd q b => 12 + (2 * q.val + b.val)
  | .rcv q b => 28 + (2 * q.val + b.val)
  | .fre q => q.val
  | .xin i => 44 + i.val
  | .out => 48

theorem semNo_csem (k : Key) : semNo (csem k) = keyNo k := by
  cases k with
  | bar => exact barS_val
  | snd q b => show 9 + (sndS q b : DmaSem sig).val = 12 + (2 * q.val + b.val); rw [sndS_val]; omega
  | rcv q b => show 9 + (rcvS q b : DmaSem sig).val = 28 + (2 * q.val + b.val); rw [rcvS_val]; omega
  | fre q => exact freS_val q
  | xin i => show 9 + (xS i : DmaSem sig).val = 44 + i.val; rw [xS_val]; omega
  | out => show 9 + (outS : DmaSem sig).val = 48; rw [outS_val]

theorem keyNo_inj : Function.Injective keyNo := by
  intro k k' h
  cases k <;> cases k' <;> dsimp only [keyNo] at h <;>
    first
    | rfl
    | (exfalso; omega)
    | (congr 1 <;> exact Fin.ext (by omega))

theorem csem_inj : Function.Injective csem := fun k k' h =>
  keyNo_inj (by rw [← semNo_csem, ← semNo_csem, h])

/-- The key of a semaphore, if it is one of the kernel's. -/
def dec (s : SemLoc sig) : Option Key := by
  classical exact if h : ∃ k, csem k = s then some h.choose else none

@[simp] theorem dec_csem (k : Key) : dec (csem k) = some k := by
  classical
  unfold dec
  have h : ∃ k', csem k' = csem k := ⟨k, rfl⟩
  rw [dif_pos h]
  exact congrArg some (csem_inj h.choose_spec)

abbrev cell (c : Dev nD) (k : Key) : GSem nD τ sig := ((c : Thread nD τ), csem k)

theorem cell_inj {c c' : Dev nD} {k k' : Key} (h : cell c k = cell c' k') : c = c' ∧ k = k' :=
  ⟨congrArg (fun g : GSem nD τ sig => g.1.1) h, csem_inj (congrArg Prod.snd h)⟩

/-! ## Amounts -/

/-- What a transfer of one slot, of one operand block and of one output block credits. -/
def NS : ℕ := (slot 0 0).view.dmaCredit
def NX : ℕ := (xslot 0).view.dmaCredit
def NO : ℕ := (rcol 0).view.dmaCredit

theorem NS_pos : 0 < NS := View.dmaCredit_pos _ (by decide)
theorem NX_pos : 0 < NX := View.dmaCredit_pos _ (by decide)
theorem NO_pos : 0 < NO := View.dmaCredit_pos _ (by decide)
theorem slot_credit (q : Fin 8) (b : Fin 2) : (slot q b).view.dmaCredit = NS := rfl
theorem xslot_credit (i : Fin 4) : (xslot i).view.dmaCredit = NX := rfl
theorem rcol_credit (q : Fin 8) : (rcol q).view.dmaCredit = NO := rfl

attribute [irreducible] NS NX NO

def amt : Key → ℕ
  | .bar => 1
  | .snd _ _ => NS
  | .rcv _ _ => NS
  | .fre _ => 1
  | .xin _ => NX
  | .out => NO

theorem amt_pos (k : Key) : 0 < amt k := by
  cases k <;> dsimp only [amt]
  · exact Nat.one_pos
  · exact NS_pos
  · exact NS_pos
  · exact Nat.one_pos
  · exact NX_pos
  · exact NO_pos

/-! ## Contents -/

/-- A stream's two slots, as the loads and stores see them. -/
abbrev slotM (q : Fin 8) (b : Fin 2) : Memref sig .tc .vmem S1x1x1024x256 .bf16 := comm.slice (slotR q b) (fun _ => rfl)
abbrev xslotM (i : Fin 4) : Memref sig .tc .vmem S1x1024x1024 .f32 := xbuf.slice (xslotR i) (fun _ => rfl)

variable (m : (ℓ : Loc nD τ sig) → Buf (Elt F) ℓ) (ρ : Dev nD → PrngReg)

/-- The memory at launch: any contents, every semaphore at zero. -/
def s₀ : MemSt nD τ sig (Elt F) := ⟨m, fun _ => 0, ρ⟩

/-- The staged weights and scales. -/
def wstg (c : Dev nD) : (cc0_stg0_0 : Ref sig .tc).ty.Contents (Elt F) :=
  (win0_0.blk (0 : Fin 1)).view.read (Elt F) (m ((c : Thread nD τ).loc main_arg1))
def sxstg (c : Dev nD) : (cc0_stg1_0 : Ref sig .tc).ty.Contents (Elt F) :=
  (win0_1.blk (0 : Fin 1)).view.read (Elt F) (m ((c : Thread nD τ).loc main_arg2))
def swstg (c : Dev nD) : (cc0_stg2_0 : Ref sig .tc).ty.Contents (Elt F) :=
  (win0_2.blk (0 : Fin 1)).view.read (Elt F) (m ((c : Thread nD τ).loc main_arg3))

abbrev wRect : Rect S1024x2048 := Rect.unit (s := S1024x2048) ![0, 0] S1024x2048.size inb_S1024x2048_S1024x2048_0_0
abbrev oneRect : Rect S1 := Rect.unit (s := S1) ![0] S1.size inb_S1_S1_0
abbrev oneIdx : oneRect.shape.Idx := Shape.Idx.first ((numel1_S1 : oneRect.shape.numel = 1).symm ▸ Nat.one_pos)

/-- The rounded weights device `c` multiplies by, and its scale. -/
def w8 (c : Dev nD) : FVec F S1024x2048 .fp8e5m2 := k0_pay1 (wst.view.readAt (Elt F) wRect.toLoadRect (wstg m c))
def scl (c : Dev nD) : F .f32 :=
  k0_pay2 ((sxst.access oneRect).read (Elt F) (sxstg m c) oneIdx) ((swst.access oneRect).read (Elt F) (swstg m c) oneIdx)

/-- Operand block `i` of device `c`, as its load reads it. -/
def xval (c : Dev nD) (i : Fin 4) : Vec F S1x1024x1024 .f32 := fun j =>
  (xsrc c i).view.read (Elt F) (m ((c : Thread nD τ).loc main_arg0))
    ((Shape.reshapeEquiv squeezes_S1x1024x1024_S1024x1024.numel_eq).symm j)

/-- Which operand block a stream uses at each hop. -/
def hopX (h : ℕ) (q : Fin 8) : Fin 4 :=
  match h with
  | 0 => if q.val % 2 = 0 then 0 else 1
  | 1 => 2
  | _ => if q.val % 2 = 0 then 1 else 0

/-- What device `c` sends on stream `q` at hop `h`. -/
def acc : ℕ → Fin 8 → Dev nD → Vec F S1x1x1024x256 .bf16
  | 0, q, c => seedPay (w8 m c) q (xval m c (hopX 0 q))
  | h + 1, q, c => midPay (w8 m c) q (xval m c (hopX (h + 1) q)) (acc h q (ups q c))

/-- What it stores into its output for stream `q`. -/
def outv (q : Fin 8) (c : Dev nD) : FVec F S1024x256 .f32 :=
  finPay (w8 m c) (scl m c) q (xval m c 3) (acc m 2 q (ups q c))

/-- Which hop lands in slot `b` at its round `r`. -/
def hopOf (b : Fin 2) (r : ℕ) : ℕ := if b.val = 1 then 2 * r else 1

/-! ## What is handed over -/

def slotH (c : Dev nD) (q : Fin 8) (b : Fin 2) (X : Vec F S1x1x1024x256 .bf16) : sProp 𝕄 :=
  owns (c : Thread nD τ) (slotM q b) fullShare X
def junk (c : Dev nD) (q : Fin 8) (b : Fin 2) : sProp 𝕄 := iprop(∃ X, slotH c q b X)
def xH (c : Dev nD) (i : Fin 4) (X : Vec F S1x1024x1024 .f32) : sProp 𝕄 :=
  owns (c : Thread nD τ) (xslotM i) fullShare X
/-- Operand block `i` of device `c` at its launch contents. -/
def srcH (c : Dev nD) (i : Fin 4) : sProp 𝕄 :=
  (xsrc c i).view.loc (c : Thread nD τ) ↦[(xsrc c i).view.set]{fullShare} (m ((c : Thread nD τ).loc main_arg0))
def ocolH (c : Dev nD) (q : Fin 8) (X : Vec F S1024x256 .f32) : sProp 𝕄 :=
  owns (c : Thread nD τ) (ocol q) fullShare X
def rcolH (c : Dev nD) (q : Fin 8) (X : Vec F S1024x256 .f32) : sProp 𝕄 :=
  owns (c : Thread nD τ) (rcol q) fullShare X

instance (c : Dev nD) (q b X) : BI.Storable (upEmb : UEmb _ 𝕄) (slotH (F := F) c q b X) := by unfold slotH; infer_instance
instance (c : Dev nD) (q b) : BI.Storable (upEmb : UEmb _ 𝕄) (junk (F := F) c q b) := by unfold junk; infer_instance
instance (c : Dev nD) (i X) : BI.Storable (upEmb : UEmb _ 𝕄) (xH (F := F) c i X) := by unfold xH; infer_instance
instance (c : Dev nD) (i) : BI.Storable (upEmb : UEmb _ 𝕄) (srcH (F := F) m c i) := by unfold srcH; infer_instance
instance (c : Dev nD) (q X) : BI.Storable (upEmb : UEmb _ 𝕄) (ocolH (F := F) c q X) := by unfold ocolH; infer_instance
instance (c : Dev nD) (q X) : BI.Storable (upEmb : UEmb _ 𝕄) (rcolH (F := F) c q X) := by unfold rcolH; infer_instance

/-- The barrier's two units: the next device's landing slots of the even streams, the previous one's of the odd. -/
def barPay (c : Dev nD) (d : Fin 8) : sProp 𝕄 :=
  if d = 0 then iprop(junk (nxt c) 0 1 ∗ junk (nxt c) 2 1 ∗ junk (nxt c) 4 1 ∗ junk (nxt c) 6 1)
  else iprop(junk (prv c) 1 1 ∗ junk (prv c) 3 1 ∗ junk (prv c) 5 1 ∗ junk (prv c) 7 1)

def frePay (c : Dev nD) (q : Fin 8) (r : ℕ) : sProp 𝕄 :=
  iprop(junk (dst q c) q (if r = 0 then 0 else 1) ∗ reached ER (cell (dst q c) (.rcv q (if r = 0 then 0 else 1))) r)

def pay (c : Dev nD) (k : Key) (r : ℕ) (d : Fin 8) : sProp 𝕄 :=
  match k with
  | .bar => barPay c d
  | .snd q b => junk c q b
  | .rcv q b => iprop(slotH c q b (acc m (hopOf b r) q (ups q c)) ∗ reached ER (cell (ups q c) (.fre q)) (hopOf b r))
  | .fre q => frePay c q r
  | .xin i => iprop(srcH m c i ∗ xH c i (xval m c i))
  | .out => iprop(rcolH c d (outv m d c) ∗ ocolH c d (outv m d c))

instance (c : Dev nD) (k r d) : BI.Storable (upEmb : UEmb _ 𝕄) (pay (F := F) m c k r d) := by
  cases k <;> unfold pay <;> dsimp only
  · unfold barPay; split <;> infer_instance
  · infer_instance
  · infer_instance
  · unfold frePay; infer_instance
  · infer_instance
  · infer_instance

/-! ## The schedule -/

/-- How many rounds a semaphore has, and the duties of each. -/
def rnd : Key → ℕ
  | .bar => 1
  | .snd _ b => 2 - b.val
  | .rcv _ b => 1 + b.val
  | .fre _ => 2
  | .xin _ => 1
  | .out => 1
def base : Key → Finset (Fin 8)
  | .bar => {0, 1}
  | .out => Finset.univ
  | _ => {0}
def dut (k : Key) (r : ℕ) : Finset (Fin 8) := if r < rnd k then base k else ∅

def Rd : Rounds.Schedule (GSem nD τ sig) (Fin 8) 𝕄 where
  duties g r := if g.1.2 = .tc then (match dec g.2 with | some k => dut k r | none => ∅) else ∅
  unitless _ := False
  amount g _ _ := match dec g.2 with | some k => amt k | none => 1
  payload g r d := match dec g.2 with | some k => pay m g.1.1 k r d | none => iprop(emp)
  amount_pos g r d _ := by
    cases dec g.2 with
    | none => exact Nat.one_pos
    | some k => exact amt_pos k

instance (g : GSem nD τ sig) (r : ℕ) (d : Fin 8) : BI.Storable (upEmb : UEmb _ 𝕄) ((Rd (F := F) m).payload g r d) := by
  show BI.Storable upEmb (match dec g.2 with | some k => pay m g.1.1 k r d | none => iprop(emp))
  split <;> infer_instance

section Tables
variable (c : Dev nD) (k : Key)

omit [FloatOps F] in
theorem not_unitless [FloatOps F] (g : GSem nD τ sig) : ¬ (Rd (F := F) m).unitless g := fun h => h
theorem duties_eq (r : ℕ) : (Rd (F := F) m).duties (cell c k) r = dut k r := by
  show (if (c : Thread nD τ).2 = .tc then (match dec (csem k) with | some k => dut k r | none => ∅) else ∅) = _
  rw [if_pos rfl, dec_csem]
theorem amount_eq (r : ℕ) (d : Fin 8) : (Rd (F := F) m).amount (cell c k) r d = amt k := by
  show (match dec (csem k) with | some k => amt k | none => 1) = _
  rw [dec_csem]
theorem payload_eq (r : ℕ) (d : Fin 8) : (Rd (F := F) m).payload (cell c k) r d = pay m c k r d := by
  show (match dec (csem k) with | some k => pay m c k r d | none => iprop(emp)) = _
  rw [dec_csem]
theorem duties_late : ∀ r, rnd k ≤ r → (Rd (F := F) m).duties (cell c k) r = ∅ := fun r hr => by
  rw [duties_eq]; exact if_neg (by omega)

theorem expect_eq (r : ℕ) : (Rd (F := F) m).expect (cell c k) r = (dut k r).card * amt k := by
  unfold Schedule.expect Schedule.amountOf
  rw [duties_eq, Finset.sum_congr rfl fun d _ => amount_eq m c k r d, Finset.sum_const, smul_eq_mul]

theorem dut_one (hb : base k = {0}) (r : ℕ) (hr : r < rnd k) : dut k r = {0} := by
  unfold dut; rw [if_pos hr, hb]

theorem expect_one (hb : base k = {0}) (r : ℕ) (hr : r < rnd k) : (Rd (F := F) m).expect (cell c k) r = amt k := by
  rw [expect_eq, dut_one k hb r hr, Finset.card_singleton, Nat.one_mul]

theorem mem_one (hb : base k = {0}) (r : ℕ) (hr : r < rnd k) : (0 : Fin 8) ∈ (Rd (F := F) m).duties (cell c k) r := by
  rw [duties_eq, dut_one k hb r hr]; exact Finset.mem_singleton_self _

theorem rest_one (hb : base k = {0}) (r : ℕ) (hr : r < rnd k) :
    bigSep ((Rd (F := F) m).duties (cell c k) r \ ∅) (fun d => (Rd (F := F) m).payload (cell c k) r d) = pay m c k r 0 := by
  rw [Finset.sdiff_empty, duties_eq, dut_one k hb r hr, bigSep_singleton, payload_eq]

end Tables

/-! ## Levels and what is owed -/

def L (g : GSem nD τ sig) : Finset ℕ := if g.1.2 = .tc then {0, 1} else ∅
def klev : Key → ℕ → ℕ
  | .bar, _ => 1
  | .rcv q b, r => 2 + 2 * (8 * hopOf b r + q.val)
  | .fre q, r => 3 + 2 * (8 * r + q.val)
  | _, _ => 0
def lv (g : GSem nD τ sig) (r : ℕ) : ℕ := match dec g.2 with | some k => klev k r | none => 0

theorem L_of_ne (g : GSem nD τ sig) (h : g.1.2 ≠ .tc) : L g = ∅ := if_neg h
theorem L_tc (c : Dev nD) (sm : SemLoc sig) : L ((c : Thread nD τ), sm) = {0, 1} := if_pos rfl
theorem lv_cell (c : Dev nD) (k : Key) (r : ℕ) : lv (cell c k) r = klev k r := by
  show (match dec (csem k) with | some k => klev k r | none => 0) = _
  rw [dec_csem]

/-- One payment owed: to a device's semaphore, at a round. -/
structure Obl where
  dev : Dev nD
  key : Key
  at' : ℕ

abbrev owe1 (x : Obl) : CellTallies nD τ sig ℕ := tallyAt (cell x.dev x.key) x.at' (amt x.key)
def tall : List Obl → CellTallies nD τ sig ℕ
  | [] => 0
  | x :: l => tall l + owe1 x

theorem tall_cons (x : Obl) (l : List Obl) : tall (x :: l) = tall l + tallyAt (cell x.dev x.key) x.at' (amt x.key) := rfl

theorem tall_pos {l : List Obl} {g : GSem nD τ sig} {r : ℕ} (h : 0 < tall l g r) :
    ∃ x ∈ l, g = cell x.dev x.key ∧ r = x.at' := by
  induction l with
  | nil => exact absurd h (Nat.lt_irrefl 0)
  | cons x l ih =>
    rw [tall_cons, Pi.add_apply, Finsupp.add_apply, tallyAt_apply] at h
    by_cases hx : g = cell x.dev x.key ∧ r = x.at'
    · exact ⟨x, List.mem_cons_self, hx⟩
    · rw [if_neg hx, Nat.add_zero] at h
      obtain ⟨y, hy, hy'⟩ := ih h
      exact ⟨y, List.mem_cons_of_mem _ hy, hy'⟩

/-- Everything on the list lies above `b`. -/
def Above (b : ℕ) (l : List Obl) : Prop := ∀ x ∈ l, x.at' < 2 ∧ b < klev x.key x.at'

theorem mayWait (c : Dev nD) (k : Key) (r : ℕ) (hr : r < 2) (l : List Obl) (h : Above (klev k r) l) :
    (levAts L lv : sProp 𝕄) ⊢ MayWait (c : Thread nD τ) (csem k) r (tall l) := by
  have two : ∀ r : ℕ, r < 2 → r ∈ ({0, 1} : Finset ℕ) := fun r hr => by
    rcases r with _ | _ | r
    · decide
    · decide
    · omega
  refine MayOwe.of_cut (L := L) (lev := lv) (klev k r) ?_ ?_ ?_ ?_
  · intro p hp; rw [Finset.mem_singleton.mp hp, L_tc]; exact two r hr
  · intro g u hg
    obtain ⟨x, hx, rfl, rfl⟩ := tall_pos hg
    rw [L_tc]; exact two _ (h x hx).1
  · intro p hp; rw [Finset.mem_singleton.mp hp]; exact (lv_cell c k r).le
  · intro g u hg
    obtain ⟨x, hx, rfl, rfl⟩ := tall_pos hg
    rw [lv_cell]; exact (h x hx).2

/-! ## The invariants every device may open -/

abbrev 𝒱₀ : Variants := Variants.none

abbrev DK : Type := Dev nD × Key

def World (K : DK → ℕ) : sProp 𝕄 :=
  iprop((bigSep Finset.univ fun x : DK => cellInv ER (Rd m) (K x) (cell x.1 x.2))
    ∗ (bigSep Finset.univ fun x : DK => reached ER (cell x.1 x.2) 0) ∗ levAts L lv)
instance (K : DK → ℕ) : BI.Persistent (World (F := F) m K) := by unfold World; infer_instance

theorem inv_of_all (K : DK → ℕ) (x : DK) :
    (bigSep Finset.univ fun x : DK => (cellInv ER (Rd m) (K x) (cell x.1 x.2) : sProp 𝕄)) ⊢ cellInv ER (Rd m) (K x) (cell x.1 x.2) :=
  bigSep_elim (Finset.mem_univ x)
theorem reached_of_all (x : DK) :
    (bigSep Finset.univ fun x : DK => (reached ER (cell x.1 x.2) 0 : sProp 𝕄)) ⊢ reached ER (cell x.1 x.2) 0 :=
  bigSep_elim (Finset.mem_univ x)

theorem World_inv (K : DK → ℕ) (c : Dev nD) (k : Key) :
    World m K ⊢ (cellInv ER (Rd m) (K (c, k)) (cell c k) : sProp 𝕄) := by
  unfold World
  iintro ⟨H, -, -⟩
  iapply (inv_of_all m K (c, k))
  iexact H
theorem World_reached (K : DK → ℕ) (c : Dev nD) (k : Key) : World m K ⊢ (reached ER (cell c k) 0 : sProp 𝕄) := by
  unfold World
  iintro ⟨-, H, -⟩
  iapply (reached_of_all (F := F) (c, k))
  iexact H
theorem World_lev (K : DK → ℕ) : World m K ⊢ (levAts L lv : sProp 𝕄) := by
  unfold World
  iintro ⟨-, -, H⟩
  iexact H

/-- What device `c` still owes, over whatever it has waited for. -/
def ow (c : Dev nD) (l : List Obl) : sProp 𝕄 := iprop(∃ W, owes (c : Thread nD τ) (tall l) W)

end Cert.KernelIdeal.Ring
-- ==== Proof.Ops.lean ====
module

public import proofs.«01_k».proof.Proof.Proto

/-! One rule for each operation of the blocks, over the resources of the protocol. -/

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

variable (m : (ℓ : Loc nD τ sig) → Buf (Elt F) ℓ) (K : DK → ℕ)

/-- The weakest precondition of a piece of the body on device `c`. -/
abbrev Wp {α : Type} (c : Dev nD) (p : TcProg F α) (Q : α → sProp 𝕄) : sProp 𝕄 :=
  wp frame (wpE (defs₀ (F := F)) 𝒱₀ (c : Thread nD τ) none) Set.univ p Q

theorem Wp_bind {α β : Type} (c : Dev nD) (p : TcProg F α) (k : α → TcProg F β) (Q : β → sProp 𝕄) :
    Wp c (p >>= k) Q = Wp c p fun a => Wp c (k a) Q := wp_bind _ _ _ _ _ _

/-! ## Views through a change of shape -/

omit [FloatOps F] in
theorem read_reshaped {κ : Kind} {sp : Space} {s s' : Shape} {e : EltTy} (v : View sig κ sp s e) (h : s'.numel = s.numel)
    (f : v.ty.Contents (Elt F)) (w : s'.Idx → Elt F e) :
    v.read (Elt F) ((v.reshape s' h).write (Elt F) f w Finset.univ) = fun j => w ((Shape.reshapeEquiv h).symm j) := by
  funext j
  have := View.read_write_reshape (Val := Elt F) v h f w ((Shape.reshapeEquiv h).symm j)
  rwa [Equiv.apply_symm_apply] at this

/-! ## Loads and stores -/

theorem wp_loadX (c : Dev nD) (i : Fin 4) (X : Vec F S1x1024x1024 .f32) (Q : Vec F S1x1024x1024 .f32 → sProp 𝕄) :
    xH c i X ⊢ iprop((xH c i X -∗ Q X) -∗ Wp c (loadX i) Q) := by
  unfold xH owns loadX Prog.lift
  iintro ⟨%f, %hf, H⟩ Hk
  iapply (wp_load 𝒱₀ (c : Thread nD τ) none Set.univ (m := xbuf) (r := (xslotR i).toLoadRect) (f := f)
    (show xbuf.view.setOn (xslotR i).toLoadRect.set ⊆ (xslotM i).view.set from (View.set_slice _ _).ge)) $$ H
  iintro H
  rw [wp_ret]; imodintro
  rw [show (xbuf.view.readAt (Elt F) (xslotR i).toLoadRect f) = X from hf]
  iapply Hk
  iexists f
  isplitr; · ipureintro; exact hf
  iexact H

theorem wp_loadC (c : Dev nD) (q : Fin 8) (b : Fin 2) (X : Vec F S1x1x1024x256 .bf16) (Q : Vec F S1x1x1024x256 .bf16 → sProp 𝕄) :
    slotH c q b X ⊢ iprop((slotH c q b X -∗ Q X) -∗ Wp c (loadC q b) Q) := by
  unfold slotH owns loadC Prog.lift
  iintro ⟨%f, %hf, H⟩ Hk
  iapply (wp_load 𝒱₀ (c : Thread nD τ) none Set.univ (m := comm) (r := (slotR q b).toLoadRect) (f := f)
    (show comm.view.setOn (slotR q b).toLoadRect.set ⊆ (slotM q b).view.set from (View.set_slice _ _).ge)) $$ H
  iintro H
  rw [wp_ret]; imodintro
  rw [show (comm.view.readAt (Elt F) (slotR q b).toLoadRect f) = X from hf]
  iapply Hk
  iexists f
  isplitr; · ipureintro; exact hf
  iexact H

theorem wp_storeC (c : Dev nD) (q : Fin 8) (b : Fin 2) (X w : Vec F S1x1x1024x256 .bf16) (Q : PUnit → sProp 𝕄) :
    slotH c q b X ⊢ iprop((slotH c q b w -∗ Q ⟨⟩) -∗ Wp c (storeC q b w) Q) := by
  unfold slotH owns storeC Prog.lift
  iintro ⟨%f, %hf, H⟩ Hk
  iapply (wp_store 𝒱₀ (c : Thread nD τ) none Set.univ (m := comm) (r := slotR q b) (w := w) (Mk := Finset.univ) (f := f)
    (show (comm.access (slotR q b)).setOn Finset.univ ⊆ (slotM q b).view.set from subset_rfl)) $$ H
  iintro H
  rw [wp_ret]; imodintro
  iapply Hk
  iexists _
  isplitr
  rotate_left
  · iexact H
  ipureintro
  exact View.read_write_univ (v := (slotM q b).view) f w

/-! ## Payments -/

theorem wp_sendC (c d : Dev nD) (q : Fin 8) (b b' : Fin 2) (r r' : ℕ) (X : Vec F S1x1x1024x256 .bf16) (l : List Obl)
    (hd : d = dst q c) (hr : r < rnd (.snd q b)) (hr' : r' < rnd (.rcv q b')) (hX : X = acc m (hopOf b' r') q c)
    (Q : PUnit → sProp 𝕄) :
    iprop(World m K ∗ slotH c q b X ∗ junk d q b' ∗ ow c (⟨d, .rcv q b', r'⟩ :: l)
        ∗ dutyTok ER (cell c (.snd q b)) r 0 ∗ reached ER (cell c (.snd q b)) r
        ∗ dutyTok ER (cell d (.rcv q b')) r' 0 ∗ reached ER (cell d (.rcv q b')) r'
        ∗ reached ER (cell c (.fre q)) (hopOf b' r'))
      ⊢ iprop(((cred (tallyAt (cell c (.snd q b)) 0 NS) ∗ ow c l) -∗ Q ⟨⟩) -∗ Wp c (sendC q b b' d) Q) := by
  subst hd hX
  unfold slotH junk slotH owns sendC Prog.lift ow
  iintro ⟨#HW, ⟨%f, %hf, Hsrc⟩, ⟨%Y, %g, -, Hdst⟩, ⟨%W, HO⟩, Ht, Hr, Ht', Hr', Hfr⟩ Hk
  ihave #Hi := (World_inv m K c (.snd q b)) $$ HW
  ihave #Hi' := (World_inv m K (dst q c) (.rcv q b')) $$ HW
  have e1 : (slot q b).view.set = (slotM q b).view.set := View.set_reshape _ _
  have e2 : (slot q b').view.set = (slotM q b').view.set := View.set_reshape _ _
  have hp1 : ((slot q b).view.loc (c : Thread nD τ) ↦[(slot q b).view.set]{fullShare} f : sProp 𝕄)
      ⊢ (Rd m).payload (cell c (.snd q b)) r 0 := by
    rw [payload_eq, e1]
    show _ ⊢ junk c q b
    unfold junk slotH owns
    iintro H; iexists _; iexists f
    isplitr; · ipureintro; rfl
    iexact H
  have hp2 : iprop(((slot q b').view.loc (dst q c : Thread nD τ) ↦[(slot q b').view.set]{fullShare}
        ((slot q b').view.write (Elt F) g ((slot q b).view.read (Elt F) f) Finset.univ)) ∗ reached ER (cell c (.fre q)) (hopOf b' r') : sProp 𝕄)
      ⊢ (Rd m).payload (cell (dst q c) (.rcv q b')) r' 0 := by
    rw [payload_eq, e2]
    show _ ⊢ iprop(slotH (dst q c) q b' (acc m (hopOf b' r') q (ups q (dst q c))) ∗ reached ER (cell (ups q (dst q c)) (.fre q)) (hopOf b' r'))
    rw [ups_dst]
    unfold slotH owns
    iintro ⟨H, Hf⟩
    isplitr [Hf]
    rotate_left
    · iexact Hf
    iexists _
    isplitr
    rotate_left
    · iexact H
    ipureintro
    refine (read_reshaped (slotM q b').view _ g _).trans ?_
    rw [← hf]
    funext j
    exact congrArg ((slotM q b).view.read (Elt F) f) (Equiv.apply_symm_apply _ j)
  iapply (Rounds.wp_send_pointsTo_with 𝒱₀ ER (Rd m) (c : Thread nD τ) none (κ₁ := K (c, .snd q b)) (κ₂ := K (dst q c, .rcv q b'))
    (c' := (dst q c : Thread nD τ)) (src := slot q b) (dst := slot q b') (sS := .dma (sndS q b)) (sem := .dma (rcvS q b'))
    (r₁ := r) (r₂ := r') (d₁ := 0) (d₂ := 0) (fs := f) (fd := g) (q := fullShare)
    (mem_one m c (.snd q b) rfl r hr) (mem_one m (dst q c) (.rcv q b') rfl r' hr') r' 0 NS (slot_credit q b')
    (amount_eq m c (.snd q b) r 0) (amount_eq m (dst q c) (.rcv q b') r' 0) (tall l) rfl (W := W) hp1 hp2) $$ [Hsrc Hdst HO Ht Hr Ht' Hr' Hfr]
  · isplitr; · iexact Hi
    isplitr; · iexact Hi'
    isplitl [Hsrc]; · rw [e1]; iexact Hsrc
    isplitl [Hdst Hfr]
    · isplitl [Hdst]; · rw [e2]; iexact Hdst
      iexact Hfr
    isplitl [HO]; · iexact HO
    isplitl [Ht]; · iexact Ht
    isplitl [Hr]; · iexact Hr
    isplitl [Ht']; · iexact Ht'
    iexact Hr'
  iintro ⟨Hc, HO⟩
  rw [wp_ret]; imodintro
  iapply Hk
  isplitl [Hc]; · iexact Hc
  iexists W
  iexact HO

theorem one_toNat : (1#32 : BitVec 32).toInt = (1 : ℤ) := by decide

/-- Paying a unit into a regular semaphore. -/
theorem wp_pay (c d : Dev nD) (k : Key) (s : Sem sig) (hs : csem k = .reg s) (j : Fin 8) (r : ℕ) (l : List Obl)
    (hj : j ∈ dut k r) (ha : amt k = 1) (Q : PUnit → sProp 𝕄) :
    iprop(World m K ∗ ow c (⟨d, k, r⟩ :: l) ∗ dutyTok ER (cell d k) r j ∗ pay m d k r j ∗ reached ER (cell d k) r)
      ⊢ iprop((ow c l -∗ Q ⟨⟩) -∗ Wp c (semSignalWord d s 1#32) Q) := by
  unfold semSignalWord ow
  iintro ⟨#HW, ⟨%W, HO⟩, Ht, Hp, Hr⟩ Hk
  ihave #Hi := (World_inv m K d k) $$ HW
  have ec : cell d k = ((d : Thread nD τ), SemLoc.reg s) := by unfold cell; rw [hs]
  iapply (Rounds.wp_signal 𝒱₀ ER (Rd m) (c : Thread nD τ) none (dst := (d : Thread nD τ)) (sem := s) (κ := K (d, k)) (r := r) (d := j) (k' := 1)
      (by rw [← ec, duties_eq]; exact hj) (by rw [← ec, amount_eq]; exact ha) r (tall l)
      (show tall (⟨d, k, r⟩ :: l) = tall l + tallyAt ((d : Thread nD τ), SemLoc.reg s) r 1 by rw [tall_cons, ha, ec]) (W := W)) $$ [HO Ht Hp Hr]
  · rw [← ec]
    isplitr; · iexact Hi
    isplitl [HO]; · iexact HO
    isplitl [Ht]; · iexact Ht
    isplitl [Hp]; · rw [payload_eq]; iexact Hp
    iexact Hr
  iintro HO
  rw [wp_ret]; imodintro
  iapply Hk
  iexists W
  iexact HO

/-! ## Waits -/

/-- Waiting for the one payment of a round on a DMA semaphore. -/
theorem wp_waitD (c : Dev nD) (k : Key) (s : DmaSem sig) (hs : csem k = .dma s) (r ι : ℕ) (l : List Obl)
    (hb : base k = {0}) (hr : r < rnd k) (hι : ι < 2) (hab : Above (klev k ι) l)
    {sp sp' : Space} {sh sh' : Shape} {e e' : EltTy} (src : Memref sig .tc sp' sh' e') (dst : Memref sig .tc sp sh e)
    (hsrc : src.view.WordExact) (hdst : dst.view.WordExact) (hN : dst.view.dmaCredit = amt k) (Q : PUnit → sProp 𝕄) :
    iprop(World m K ∗ cred (tallyAt (cell c k) ι (amt k)) ∗ ow c l ∗ atPos ER (cell c k) r ∅ 0)
      ⊢ iprop(((ow c l ∗ atPos ER (cell c k) (r + 1) ∅ 0 ∗ reached ER (cell c k) (r + 1) ∗ pay m c k r 0) -∗ Q ⟨⟩)
          -∗ Wp c (Prog.lift (.waitDma2 s src dst hsrc hdst)) Q) := by
  unfold Prog.lift ow
  iintro ⟨#HW, Hc, ⟨%W, HO⟩, Hat⟩ Hk
  ihave #Hi := (World_inv m K c k) $$ HW
  ihave #Hlev := (World_lev m K) $$ HW
  have ec : cell c k = ((c : Thread nD τ), SemLoc.dma s) := by unfold cell; rw [hs]
  have hmw := mayWait (F := F) c k ι hι l hab
  rw [hs] at hmw
  have hrest := rest_one m c k hb r hr
  have hexp := expect_one m c k hb r hr
  rw [ec] at hrest hexp ⊢
  iapply (Rounds.wp_wait_rest_token 𝒱₀ ER (Rd m) (c : Thread nD τ) none (κ := K (c, k))
      (wpE_waitDma2_eq 𝒱₀ (c : Thread nD τ) none Set.univ (src := src) (dst := dst) (hsrc := hsrc) (hdst := hdst)) (Set.mem_univ _) ι (O := tall l) (W := W) (R := r) (m := 0) (T := ∅)
      (by rw [Nat.zero_add, hN, hexp])) $$ [Hc HO Hat]
  · isplitr; · iexact Hi
    isplitl [Hc]; · rw [hN]; iexact Hc
    isplitl [HO]; · iexact HO
    isplitr; · iapply hmw; iexact Hlev
    iexact Hat
  iintro ⟨HO, Hat, Hr, Hpay⟩
  ihave Hp := (Entails.of_eq hrest) $$ Hpay
  rw [wp_ret]; imodintro
  iapply Hk
  isplitl [HO]; · iexists _; iexact HO
  isplitl [Hat]; · iexact Hat
  isplitl [Hr]; · iexact Hr
  iexact Hp

/-- Waiting for a whole round of a regular semaphore. -/
theorem wp_waitW (c : Dev nD) (k : Key) (s : Sem sig) (hs : csem k = .reg s) (n : BitVec 32) (n' : ℕ) (hn : n.toInt.toNat = n') (hn' : (n' : ℤ) = n.toInt)
    (r ι : ℕ) (l : List Obl) (hι : ι < 2) (hab : Above (klev k ι) l)
    (hexp : (dut k r).card * amt k = n') (Q : PUnit → sProp 𝕄) :
    iprop(World m K ∗ cred (tallyAt (cell c k) ι n') ∗ ow c l ∗ atPos ER (cell c k) r ∅ 0)
      ⊢ iprop(((ow c l ∗ atPos ER (cell c k) (r + 1) ∅ 0 ∗ reached ER (cell c k) (r + 1)
            ∗ bigSep (dut k r) fun d => pay m c k r d) -∗ Q ⟨⟩)
          -∗ Wp c (semWaitWord s n) Q) := by
  unfold semWaitWord ow
  rw [← hn']
  iintro ⟨#HW, Hc, ⟨%W, HO⟩, Hat⟩ Hk
  ihave #Hi := (World_inv m K c k) $$ HW
  ihave #Hlev := (World_lev m K) $$ HW
  have ec : cell c k = ((c : Thread nD τ), SemLoc.reg s) := by unfold cell; rw [hs]
  have hmw := mayWait (F := F) c k ι hι l hab
  rw [hs] at hmw
  have hrest : bigSep ((Rd (F := F) m).duties (cell c k) r \ ∅) (fun d => (Rd (F := F) m).payload (cell c k) r d)
      = bigSep (dut k r) fun d => pay m c k r d := by
    rw [Finset.sdiff_empty, duties_eq]; exact bigSep_congr fun d _ => payload_eq m c k r d
  have hexp' := (expect_eq m c k r).trans hexp
  rw [ec] at hrest hexp' ⊢
  iapply (Rounds.wp_wait_rest_token 𝒱₀ ER (Rd m) (c : Thread nD τ) none (κ := K (c, k))
      (wpE_semWait_eq 𝒱₀ (c : Thread nD τ) none Set.univ (sem := s) (k := n')) (Set.mem_univ _) ι (O := tall l) (W := W) (R := r) (m := 0) (T := ∅)
      (by rw [Nat.zero_add, hexp'])) $$ [Hc HO Hat]
  · isplitr; · iexact Hi
    isplitl [Hc]; · iexact Hc
    isplitl [HO]; · iexact HO
    isplitr; · iapply hmw; iexact Hlev
    iexact Hat
  iintro ⟨HO, Hat, Hr, Hpay⟩
  ihave Hp := (Entails.of_eq hrest) $$ Hpay
  rw [wp_ret]; imodintro
  iapply Hk
  isplitl [HO]; · iexists _; iexact HO
  isplitl [Hat]; · iexact Hat
  isplitl [Hr]; · iexact Hr
  iexact Hp

/-! ## The operand blocks -/

theorem wp_fetchX (c : Dev nD) (i : Fin 4) (Y : Vec F S1x1024x1024 .f32) (Q : PUnit → sProp 𝕄) :
    iprop(World m K ∗ srcH m c i ∗ xH c i Y ∗ dutyTok ER (cell c (.xin i)) 0 0)
      ⊢ iprop((cred (tallyAt (cell c (.xin i)) 0 NX) -∗ Q ⟨⟩) -∗ Wp c (fetchX c i) Q) := by
  unfold srcH xH owns fetchX Prog.lift
  iintro ⟨#HW, Hsrc, ⟨%g, -, Hdst⟩, Ht⟩ Hk
  ihave #Hi := (World_inv m K c (.xin i)) $$ HW
  ihave #Hr := (World_reached m K c (.xin i)) $$ HW
  have e : (xslot i).view.set = (xslotM i).view.set := View.set_reshape _ _
  have hp : iprop(((xslot i).view.loc (c : Thread nD τ) ↦[(xslot i).view.set]{fullShare}
          ((xslot i).view.write (Elt F) g ((xsrc c i).view.read (Elt F) (m ((c : Thread nD τ).loc main_arg0))) Finset.univ))
        ∗ ((xsrc c i).view.loc (c : Thread nD τ) ↦[(xsrc c i).view.set]{fullShare} (m ((c : Thread nD τ).loc main_arg0))) : sProp 𝕄)
      ⊢ (Rd m).payload (cell c (.xin i)) 0 0 := by
    rw [payload_eq, e]
    show _ ⊢ iprop(srcH m c i ∗ xH c i (xval m c i))
    unfold srcH xH owns
    iintro ⟨H, Hs⟩
    isplitl [Hs]; · iexact Hs
    iexists _
    isplitr
    rotate_left
    · iexact H
    ipureintro
    exact read_reshaped (xslotM i).view _ g _
  iapply (Rounds.wp_copy_pointsTo 𝒱₀ ER (Rd m) (c : Thread nD τ) none (κ := K (c, .xin i)) (src := xsrc c i) (dst := xslot i)
    (sem := .dma (xS i)) (q := fullShare) (fs := m ((c : Thread nD τ).loc main_arg0)) (fd := g) (r := 0) (d := 0)
    (mem_one m c (.xin i) rfl 0 Nat.one_pos) 0 NX (xslot_credit i) (amount_eq m c (.xin i) 0 0) hp) $$ [Hsrc Hdst Ht]
  · isplitr; · iexact Hi
    isplitl [Hsrc]; · iexact Hsrc
    isplitl [Hdst]; · rw [e]; iexact Hdst
    isplitl [Ht]; · iexact Ht
    iexact Hr
  iintro Hc
  rw [wp_ret]; imodintro
  iapply Hk
  iexact Hc

/-! ## The output columns -/

theorem wp_loadO (c : Dev nD) (q : Fin 8) (X : Vec F S1024x256 .f32) (Q : Vec F S1024x256 .f32 → sProp 𝕄) :
    ocolH c q X ⊢ iprop((ocolH c q X -∗ Q X)
      -∗ Wp c (Prog.lift (.load obuf (colR q).toLoadRect (View.loadsAt_vmem h_S1024x256))) Q) := by
  unfold ocolH owns Prog.lift
  iintro ⟨%f, %hf, H⟩ Hk
  iapply (wp_load 𝒱₀ (c : Thread nD τ) none Set.univ (m := obuf) (r := (colR q).toLoadRect) (f := f)
    (show obuf.view.setOn (colR q).toLoadRect.set ⊆ (ocol q).view.set from (View.set_slice _ _).ge)) $$ H
  iintro H
  rw [wp_ret]; imodintro
  rw [show (obuf.view.readAt (Elt F) (colR q).toLoadRect f) = X from hf]
  iapply Hk
  iexists f
  isplitr; · ipureintro; exact hf
  iexact H

theorem wp_storeO (c : Dev nD) (q : Fin 8) (X w : Vec F S1024x256 .f32) (Q : PUnit → sProp 𝕄) :
    ocolH c q X ⊢ iprop((ocolH c q w -∗ Q ⟨⟩)
      -∗ Wp c (Prog.lift (.store obuf (colR q) w Finset.univ (View.stores_vmem_bits_univ h_S1024x256 rfl) (.inl rfl))) Q) := by
  unfold ocolH owns Prog.lift
  iintro ⟨%f, %hf, H⟩ Hk
  iapply (wp_store 𝒱₀ (c : Thread nD τ) none Set.univ (m := obuf) (r := colR q) (w := w) (Mk := Finset.univ) (f := f)
    (show (obuf.access (colR q)).setOn Finset.univ ⊆ (ocol q).view.set from subset_rfl)) $$ H
  iintro H
  rw [wp_ret]; imodintro
  iapply Hk
  iexists _
  isplitr
  rotate_left
  · iexact H
  ipureintro
  exact View.read_write_univ (v := (ocol q).view) f w

/-- Column `q` of the result copied out of the output buffer. -/
def copyO (q : Fin 8) : TcProg F PUnit :=
  Prog.lift (.enqueueDma (ocol q) (.here (rcol q)) (.dma outS) (View.wordExact_bits rfl) (View.wordExact_bits rfl)
    ⟨Or.inl rfl, trivial⟩)

theorem wp_copyO (c : Dev nD) (q : Fin 8) (Y : Vec F S1024x256 .f32) (Q : PUnit → sProp 𝕄) :
    iprop(World m K ∗ ocolH c q (outv m q c) ∗ rcolH c q Y ∗ dutyTok ER (cell c .out) 0 q)
      ⊢ iprop((cred (tallyAt (cell c .out) 0 NO) -∗ Q ⟨⟩) -∗ Wp c (copyO q) Q) := by
  unfold ocolH rcolH owns copyO Prog.lift
  iintro ⟨#HW, ⟨%f, %hf, Hsrc⟩, ⟨%g, -, Hdst⟩, Ht⟩ Hk
  ihave #Hi := (World_inv m K c .out) $$ HW
  ihave #Hr := (World_reached m K c .out) $$ HW
  have hp : iprop(((rcol q).view.loc (c : Thread nD τ) ↦[(rcol q).view.set]{fullShare}
          ((rcol q).view.write (Elt F) g ((ocol q).view.read (Elt F) f) Finset.univ))
        ∗ ((ocol q).view.loc (c : Thread nD τ) ↦[(ocol q).view.set]{fullShare} f) : sProp 𝕄)
      ⊢ (Rd m).payload (cell c .out) 0 q := by
    rw [payload_eq]
    show _ ⊢ iprop(rcolH c q (outv m q c) ∗ ocolH c q (outv m q c))
    unfold rcolH ocolH owns
    iintro ⟨H, Hs⟩
    isplitr [Hs]
    · iexists _
      isplitr
      rotate_left
      · iexact H
      ipureintro
      exact (View.read_write_univ (v := (rcol q).view) g _).trans hf
    · iexists f
      isplitr; · ipureintro; exact hf
      iexact Hs
  iapply (Rounds.wp_copy_pointsTo 𝒱₀ ER (Rd m) (c : Thread nD τ) none (κ := K (c, .out)) (src := ocol q) (dst := rcol q)
    (sem := .dma outS) (q := fullShare) (fs := f) (fd := g) (r := 0) (d := q)
    (by rw [show (((c : Thread nD τ), SemLoc.dma outS) : GSem nD τ sig) = cell c .out from rfl, duties_eq]; exact Finset.mem_univ q)
    0 NO (rcol_credit q) (amount_eq m c .out 0 q) hp) $$ [Hsrc Hdst Ht]
  · isplitr; · iexact Hi
    isplitl [Hsrc]; · iexact Hsrc
    isplitl [Hdst]; · iexact Hdst
    isplitl [Ht]; · iexact Ht
    iexact Hr
  iintro Hc
  rw [wp_ret]; imodintro
  iapply Hk
  iexact Hc

/-- The result's columns waited for so far. -/
def OutAt (c : Dev nD) (n : ℕ) : sProp 𝕄 :=
  iprop(∃ S : Finset (Fin 8), atPos ER (cell c .out) 0 S (n * NO) ∗ bigSep S fun q => pay m c .out 0 q)

theorem mayWait_nil (c : Dev nD) (k : Key) : (levAts L lv : sProp 𝕄) ⊢ MayWait (c : Thread nD τ) (csem k) 0 (tall []) :=
  mayWait c k 0 Nat.two_pos [] fun _ h => nomatch h

theorem wp_waitO (c : Dev nD) (q : Fin 8) (n : ℕ) (hn : n < 7) (Q : PUnit → sProp 𝕄) :
    iprop(World m K ∗ cred (tallyAt (cell c .out) 0 NO) ∗ ow c [] ∗ OutAt m c n)
      ⊢ iprop(((ow c [] ∗ OutAt m c (n + 1)) -∗ Q ⟨⟩) -∗ Wp c (waitO q) Q) := by
  unfold waitO Prog.lift ow OutAt
  iintro ⟨#HW, Hc, ⟨%W, HO⟩, ⟨%S, Hat, Hp⟩⟩ Hk
  ihave #Hi := (World_inv m K c .out) $$ HW
  ihave #Hlev := (World_lev m K) $$ HW
  iapply (Rounds.wp_wait 𝒱₀ ER (Rd m) (c : Thread nD τ) none (κ := K (c, .out))
      (wpE_waitDma2_eq 𝒱₀ (c : Thread nD τ) none Set.univ (src := ocol q) (dst := rcol q) (hsrc := View.wordExact_bits rfl) (hdst := View.wordExact_bits rfl)) (Set.mem_univ _)
      (O := tall []) (W := W) (R := 0) (T := S) (m := n * NO) (cr := Finsupp.single 0 NO) {(SemLoc.dma outS, 0)} (by rw [rcol_credit]; exact Finsupp.sum_single_index rfl)
      (by intro x hx; obtain ⟨i, hi, rfl⟩ := Finset.mem_image.mp hx
          have := Finsupp.support_single_subset hi
          rw [Finset.mem_singleton.mp this]; exact Finset.mem_singleton_self _)) $$ [Hc HO Hat]
  · isplitr; · iexact Hi
    isplitl [Hc]; · iexact Hc
    isplitl [HO]; · iexact HO
    isplitr; · rw [show tall [] = 0 from rfl, MayOwe_zero]; iempintro
    iexact Hat
  iintro %S' ⟨%hS, HO, Hat, Hpay⟩
  rw [wp_ret]; imodintro
  iapply Hk
  isplitl [HO]; · iexists _; iexact HO
  iexists S'
  isplitl [Hat]
  · rw [Nat.add_mul, Nat.one_mul, ← rcol_credit q]; iexact Hat
  have e : iprop((bigSep (S' \ S) fun d => (Rd m).payload (cell c .out) 0 d) ∗ (bigSep S fun q => pay m c .out 0 q) : sProp 𝕄)
      = bigSep S' fun q => pay m c .out 0 q := by
    rw [bigSep_sdiff_split hS.1, bigSep_congr fun d _ => payload_eq m c .out 0 d]
    exact sep_comm.antisymm sep_comm
  iapply (Entails.of_eq e)
  isplitl [Hpay]; · iexact Hpay
  iexact Hp

theorem wp_waitLast (c : Dev nD) (q : Fin 8) (Q : PUnit → sProp 𝕄) :
    iprop(World m K ∗ cred (tallyAt (cell c .out) 0 NO) ∗ ow c [] ∗ OutAt m c 7)
      ⊢ iprop(((ow c [] ∗ atPos ER (cell c .out) 1 ∅ 0 ∗ bigSep Finset.univ fun q => pay m c .out 0 q) -∗ Q ⟨⟩)
          -∗ Wp c (waitO q) Q) := by
  unfold waitO Prog.lift ow OutAt
  iintro ⟨#HW, Hc, ⟨%W, HO⟩, ⟨%S, Hat, Hp⟩⟩ Hk
  ihave #Hi := (World_inv m K c .out) $$ HW
  ihave #Hlev := (World_lev m K) $$ HW
  iapply (Rounds.wp_wait_rest_token 𝒱₀ ER (Rd m) (c : Thread nD τ) none (κ := K (c, .out))
      (wpE_waitDma2_eq 𝒱₀ (c : Thread nD τ) none Set.univ (src := ocol q) (dst := rcol q) (hsrc := View.wordExact_bits rfl) (hdst := View.wordExact_bits rfl)) (Set.mem_univ _) 0
      (O := tall []) (W := W) (R := 0) (T := S) (m := 7 * NO)
      (by rw [rcol_credit, show (((c : Thread nD τ), SemLoc.dma outS) : GSem nD τ sig) = cell c .out from rfl, expect_eq]
          show 7 * NO + NO = 8 * NO
          omega)) $$ [Hc HO Hat]
  · isplitr; · iexact Hi
    isplitl [Hc]; · rw [rcol_credit]; iexact Hc
    isplitl [HO]; · iexact HO
    isplitr; · iapply (mayWait_nil c .out); iexact Hlev
    iexact Hat
  iintro ⟨HO, Hat, -, Hpay⟩
  rw [wp_ret]; imodintro
  iapply Hk
  isplitl [HO]; · iexists _; iexact HO
  isplitl [Hat]; · iexact Hat
  have e : iprop((bigSep ((Rd m).duties (cell c .out) 0 \ S) fun d => (Rd m).payload (cell c .out) 0 d) ∗ (bigSep S fun q => pay m c .out 0 q) : sProp 𝕄)
      = bigSep Finset.univ fun q => pay m c .out 0 q := by
    rw [bigSep_sdiff_split (Finset.subset_univ S), bigSep_congr fun d _ => payload_eq m c .out 0 d, duties_eq]
    exact sep_comm.antisymm sep_comm
  iapply (Entails.of_eq e)
  isplitl [Hpay]; · iexact Hpay
  iexact Hp

end Cert.KernelIdeal.Ring
-- ==== Proof.Blocks.lean ====
module

public import proofs.«01_k».proof.Proof.Ops

/-! The blocks of the body: what a stream holds before and after each. -/

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

variable (m : (ℓ : Loc nD τ sig) → Buf (Elt F) ℓ) (K : DK → ℕ)

/-! ## A stream's states -/

/-- What a stream starts its first send from. -/
def SeedIn (c : Dev nD) (q : Fin 8) : sProp 𝕄 :=
  iprop(junk c q 0 ∗ junk (dst q c) q 1 ∗ dutyTok ER (cell c (.snd q 0)) 0 0 ∗ dutyTok ER (cell (dst q c) (.rcv q 1)) 0 0)

/-- Before a middle hop that receives into slot `b` and has sent from slot `b'`. -/
def MidIn (c : Dev nD) (q : Fin 8) (b b' : Fin 2) (s : ℕ) : sProp 𝕄 :=
  iprop(cred (tallyAt (cell c (.rcv q b)) 0 NS) ∗ atPos ER (cell c (.rcv q b)) 0 ∅ 0
    ∗ cred (tallyAt (cell c (.snd q b')) 0 NS) ∗ atPos ER (cell c (.snd q b')) 0 ∅ 0
    ∗ reached ER (cell c (.rcv q b')) s ∗ reached ER (cell c (.snd q b)) s
    ∗ dutyTok ER (cell (ups q c) (.fre q)) s 0
    ∗ cred (tallyAt (cell c (.fre q)) s 1) ∗ atPos ER (cell c (.fre q)) s ∅ 0
    ∗ dutyTok ER (cell c (.snd q b)) s 0 ∗ dutyTok ER (cell (dst q c) (.rcv q b')) s 0)

/-- After it. -/
def MidOut (c : Dev nD) (q : Fin 8) (b b' : Fin 2) (s : ℕ) : sProp 𝕄 :=
  iprop(atPos ER (cell c (.rcv q b)) 1 ∅ 0 ∗ reached ER (cell c (.rcv q b)) 1
    ∗ atPos ER (cell c (.snd q b')) 1 ∅ 0 ∗ reached ER (cell c (.snd q b')) 1
    ∗ atPos ER (cell c (.fre q)) (s + 1) ∅ 0 ∗ cred (tallyAt (cell c (.snd q b)) 0 NS))

/-- Before the last step of a stream. -/
def FinIn (c : Dev nD) (q : Fin 8) : sProp 𝕄 :=
  iprop(cred (tallyAt (cell c (.rcv q 1)) 1 NS) ∗ atPos ER (cell c (.rcv q 1)) 1 ∅ 0
    ∗ cred (tallyAt (cell c (.snd q 0)) 0 NS) ∗ atPos ER (cell c (.snd q 0)) 1 ∅ 0
    ∗ (∃ Y, ocolH c q Y) ∗ (∃ Y, rcolH c q Y) ∗ dutyTok ER (cell c .out) 0 q)

/-- After it. -/
def FinOut (c : Dev nD) (q : Fin 8) : sProp 𝕄 :=
  iprop(atPos ER (cell c (.rcv q 1)) 2 ∅ 0 ∗ atPos ER (cell c (.snd q 0)) 2 ∅ 0
    ∗ junk c q 0 ∗ junk c q 1 ∗ cred (tallyAt (cell c .out) 0 NO))

/-- What the last step alone uses. -/
def R2 (c : Dev nD) (q : Fin 8) : sProp 𝕄 :=
  iprop(cred (tallyAt (cell c (.rcv q 1)) 1 NS) ∗ (∃ Y, ocolH c q Y) ∗ (∃ Y, rcolH c q Y) ∗ dutyTok ER (cell c .out) 0 q)

/-- What the second middle hop and the last step use. -/
def R1 (c : Dev nD) (q : Fin 8) : sProp 𝕄 :=
  iprop(cred (tallyAt (cell c (.rcv q 0)) 0 NS) ∗ atPos ER (cell c (.rcv q 0)) 0 ∅ 0 ∗ atPos ER (cell c (.snd q 1)) 0 ∅ 0
    ∗ dutyTok ER (cell (ups q c) (.fre q)) 1 0 ∗ cred (tallyAt (cell c (.fre q)) 1 1)
    ∗ dutyTok ER (cell c (.snd q 0)) 1 0 ∗ dutyTok ER (cell (dst q c) (.rcv q 1)) 1 0 ∗ R2 c q)

/-- What all the steps after the first send use. -/
def R0 (c : Dev nD) (q : Fin 8) : sProp 𝕄 :=
  iprop(cred (tallyAt (cell c (.rcv q 1)) 0 NS) ∗ atPos ER (cell c (.rcv q 1)) 0 ∅ 0 ∗ atPos ER (cell c (.snd q 0)) 0 ∅ 0
    ∗ dutyTok ER (cell (ups q c) (.fre q)) 0 0 ∗ cred (tallyAt (cell c (.fre q)) 0 1) ∗ atPos ER (cell c (.fre q)) 0 ∅ 0
    ∗ dutyTok ER (cell c (.snd q 1)) 0 0 ∗ dutyTok ER (cell (dst q c) (.rcv q 0)) 0 0 ∗ R1 c q)

/-- A stream before each of the five stages. -/
def St0 (c : Dev nD) (q : Fin 8) : sProp 𝕄 := iprop(SeedIn c q ∗ R0 c q)
def St1 (c : Dev nD) (q : Fin 8) : sProp 𝕄 := iprop(cred (tallyAt (cell c (.snd q 0)) 0 NS) ∗ R0 c q)
def St2 (c : Dev nD) (q : Fin 8) : sProp 𝕄 := iprop(MidOut c q 1 0 0 ∗ R1 c q)
def St3 (c : Dev nD) (q : Fin 8) : sProp 𝕄 :=
  iprop(MidOut c q 0 1 1 ∗ atPos ER (cell c (.rcv q 1)) 1 ∅ 0 ∗ atPos ER (cell c (.snd q 0)) 1 ∅ 0 ∗ R2 c q)
def St4 (c : Dev nD) (q : Fin 8) : sProp 𝕄 :=
  iprop(FinOut c q ∗ atPos ER (cell c (.rcv q 0)) 1 ∅ 0 ∗ atPos ER (cell c (.snd q 1)) 1 ∅ 0 ∗ atPos ER (cell c (.fre q)) 2 ∅ 0)

/-! ## What is owed -/

theorem Above_nil (b : ℕ) : Above b [] := fun _ h => nomatch h
theorem Above_cons {b : ℕ} {x : Obl} {l : List Obl} (h : x.at' < 2 ∧ b < klev x.key x.at') (hl : Above b l) : Above b (x :: l) :=
  fun y hy => (List.mem_cons.mp hy).elim (fun e => e ▸ h) (hl y)
theorem Above_tail {b : ℕ} {x : Obl} {l : List Obl} (h : Above b (x :: l)) : Above b l := fun y hy => h y (List.mem_cons_of_mem _ hy)
theorem Above_mono {b b' : ℕ} {l : List Obl} (hb : b' ≤ b) (h : Above b l) : Above b' l :=
  fun y hy => ⟨(h y hy).1, lt_of_le_of_lt hb (h y hy).2⟩

/-! ## The blocks -/

theorem seed_run (c d : Dev nD) (q : Fin 8) (i : Fin 4) (l : List Obl) (hd : d = dst q c) (hi : i = hopX 0 q) (Q : PUnit → sProp 𝕄) :
    iprop(World m K ∗ xH c i (xval m c i) ∗ ow c (⟨d, .rcv q 1, 0⟩ :: l) ∗ St0 c q)
      ⊢ iprop(((xH c i (xval m c i) ∗ ow c l ∗ St1 c q) -∗ Q ⟨⟩) -∗ Wp c (seedBlk (w8 m c) q i d) Q) := by
  unfold seedBlk St0 SeedIn St1 junk
  iintro ⟨#HW, Hx, HO, ⟨⟨⟨%X, H0⟩, H1, Ht, Ht'⟩, HR⟩⟩ Hk
  rw [Wp_bind]
  iapply (wp_loadX c i) $$ Hx
  iintro Hx
  rw [Wp_bind]
  iapply (wp_loadC c q 0) $$ H0
  iintro H0
  rw [Wp_bind]
  iapply (wp_storeC c q 0) $$ H0
  iintro H0
  ihave #Hr1 := (World_reached m K c (.snd q 0)) $$ HW
  ihave #Hr2 := (World_reached m K d (.rcv q 1)) $$ HW
  ihave #Hr3 := (World_reached m K c (.fre q)) $$ HW
  iapply (wp_sendC m K c d q 0 1 0 0 (seedPay (w8 m c) q (xval m c i)) l hd (by show 0 < 2 - 0; decide) (by show 0 < 1 + 1; decide) (by rw [hi]; rfl)) $$ [H0 H1 HO Ht Ht']
  · isplitr; · iexact HW
    isplitl [H0]; · iexact H0
    isplitl [H1]; · rw [hd]; unfold junk; iexact H1
    isplitl [HO]; · iexact HO
    isplitl [Ht]; · iexact Ht
    isplitr; · iexact Hr1
    isplitl [Ht']; · rw [hd]; iexact Ht'
    isplitr; · iexact Hr2
    iexact Hr3
  iintro ⟨Hc, HO⟩
  iapply Hk
  isplitl [Hx]; · iexact Hx
  isplitl [HO]; · iexact HO
  isplitl [Hc]; · iexact Hc
  iexact HR

theorem mid_run (c u d : Dev nD) (q : Fin 8) (b b' : Fin 2) (s : ℕ) (i : Fin 4) (l : List Obl) (hu : u = ups q c) (hd : d = dst q c)
    (hs : (s = 0 ∧ b = 1 ∧ b' = 0) ∨ (s = 1 ∧ b = 0 ∧ b' = 1)) (hi : i = hopX (s + 1) q)
    (hl : Above (3 + 2 * (8 * s + q.val)) (⟨d, .rcv q b', s⟩ :: l)) (Q : PUnit → sProp 𝕄) :
    iprop(World m K ∗ xH c i (xval m c i) ∗ ow c (⟨u, .fre q, s⟩ :: ⟨d, .rcv q b', s⟩ :: l) ∗ MidIn c q b b' s)
      ⊢ iprop(((xH c i (xval m c i) ∗ ow c l ∗ MidOut c q b b' s) -∗ Q ⟨⟩) -∗ Wp c (midBlk (w8 m c) q b b' i u d) Q) := by
  have hs2 : s < 2 := by omega
  have h1 : hopOf b 0 = s := by rcases hs with ⟨rfl, rfl, rfl⟩ | ⟨rfl, rfl, rfl⟩ <;> rfl
  have h2 : hopOf b' s = s + 1 := by rcases hs with ⟨rfl, rfl, rfl⟩ | ⟨rfl, rfl, rfl⟩ <;> rfl
  have h3 : (if s = 0 then (0 : Fin 2) else 1) = b' := by rcases hs with ⟨rfl, rfl, rfl⟩ | ⟨rfl, rfl, rfl⟩ <;> rfl
  have h4 : 0 < rnd (.rcv q b) := by show 0 < 1 + b.val; omega
  have h5 : 0 < rnd (.snd q b') := by show 0 < 2 - b'.val; omega
  have h6 : s < rnd (.snd q b) := by
    show s < 2 - b.val
    rcases hs with ⟨rfl, rfl, rfl⟩ | ⟨rfl, rfl, rfl⟩ <;> exact of_decide_eq_true rfl
  have h7 : s < rnd (.rcv q b') := by
    show s < 1 + b'.val
    rcases hs with ⟨rfl, rfl, rfl⟩ | ⟨rfl, rfl, rfl⟩ <;> exact of_decide_eq_true rfl
  have h8 : dut (.fre q) s = {0} := dut_one (.fre q) rfl s hs2
  have a2 : Above (klev (.rcv q b) 0) (⟨u, .fre q, s⟩ :: ⟨d, .rcv q b', s⟩ :: l) :=
    Above_cons ⟨hs2, by show 2 + 2 * (8 * hopOf b 0 + q.val) < 3 + 2 * (8 * s + q.val); rw [h1]; omega⟩
      (Above_mono (by show 2 + 2 * (8 * hopOf b 0 + q.val) ≤ _; rw [h1]; omega) hl)
  have a0 : Above (klev (.snd q b') 0) (⟨u, .fre q, s⟩ :: ⟨d, .rcv q b', s⟩ :: l) := Above_mono (Nat.zero_le _) a2
  unfold midBlk MidIn MidOut
  iintro ⟨#HW, Hx, HO, ⟨Hc1, Hp1, Hc2, Hp2, #Hr1, #Hr2, Ht1, Hc3, Hp3, Ht2, Ht3⟩⟩ Hk
  rw [Wp_bind]
  iapply (wp_loadX c i) $$ Hx
  iintro Hx
  rw [Wp_bind]
  iapply (wp_waitD m K c (.rcv q b) (rcvS q b) rfl 0 0 _ rfl h4 (by decide) a2 _ _ _ _ (slot_credit q b)) $$ [Hc1 HO Hp1]
  · isplitr; · iexact HW
    isplitl [Hc1]; · iexact Hc1
    isplitl [HO]; · iexact HO
    iexact Hp1
  iintro ⟨HO, Hp1, #Hq1, Hpay⟩
  ihave Hpay := (Entails.of_eq (show pay m c (.rcv q b) 0 0 = iprop(slotH c q b (acc m s q (ups q c)) ∗ reached ER (cell (ups q c) (.fre q)) s) from by
    show iprop(slotH c q b (acc m (hopOf b 0) q (ups q c)) ∗ reached ER (cell (ups q c) (.fre q)) (hopOf b 0)) = _
    rw [h1])) $$ Hpay
  icases Hpay with ⟨Hs, #Hr3⟩
  rw [Wp_bind]
  iapply (wp_waitD m K c (.snd q b') (sndS q b') rfl 0 0 _ rfl h5 (by decide) a0 _ _ _ _ (slot_credit q b')) $$ [Hc2 HO Hp2]
  · isplitr; · iexact HW
    isplitl [Hc2]; · iexact Hc2
    isplitl [HO]; · iexact HO
    iexact Hp2
  iintro ⟨HO, Hp2, #Hq2, Hj⟩
  ihave Hj := (Entails.of_eq (show pay m c (.snd q b') 0 0 = junk c q b' from rfl)) $$ Hj
  rw [Wp_bind]
  iapply (wp_pay m K c u (.fre q) (freS q) rfl 0 s _ (by rw [h8]; exact Finset.mem_singleton_self _) rfl) $$ [HO Ht1 Hj]
  · subst hu
    isplitr; · iexact HW
    isplitl [HO]; · iexact HO
    isplitl [Ht1]; · iexact Ht1
    isplitl [Hj]
    · iapply (Entails.of_eq (show iprop(junk c q b' ∗ reached ER (cell c (.rcv q b')) s) = pay m (ups q c) (.fre q) s 0 from by
        show _ = iprop(junk (dst q (ups q c)) q (if s = 0 then 0 else 1) ∗ reached ER (cell (dst q (ups q c)) (.rcv q (if s = 0 then 0 else 1))) s)
        rw [dst_ups, h3]))
      isplitl [Hj]; · iexact Hj
      iexact Hr1
    iexact Hr3
  iintro HO
  rw [Wp_bind]
  iapply (wp_loadC c q b) $$ Hs
  iintro Hs
  rw [Wp_bind]
  iapply (wp_loadC c q b) $$ Hs
  iintro Hs
  rw [Wp_bind]
  iapply (wp_storeC c q b) $$ Hs
  iintro Hs
  rw [Wp_bind]
  iapply (wp_waitW m K c (.fre q) (freS q) rfl 1#32 1 rfl rfl s s _ hs2 hl (by rw [h8]; rfl)) $$ [Hc3 HO Hp3]
  · isplitr; · iexact HW
    isplitl [Hc3]; · iexact Hc3
    isplitl [HO]; · iexact HO
    iexact Hp3
  iintro ⟨HO, Hp3, #Hq3, Hpay⟩
  ihave Hpay := (Entails.of_eq (show (bigSep (dut (.fre q) s) fun j => pay m c (.fre q) s j)
      = iprop(junk (dst q c) q b' ∗ reached ER (cell (dst q c) (.rcv q b')) s) from by
    rw [h8, bigSep_singleton]
    show iprop(junk (dst q c) q (if s = 0 then 0 else 1) ∗ reached ER (cell (dst q c) (.rcv q (if s = 0 then 0 else 1))) s) = _
    rw [h3])) $$ Hpay
  icases Hpay with ⟨Hj, #Hr4⟩
  subst hd
  iapply (wp_sendC m K c (dst q c) q b b' s s (midPay (w8 m c) q (xval m c i) (acc m s q (ups q c))) l rfl h6 h7 (by rw [h2, hi]; rfl)) $$ [Hs Hj HO Ht2 Ht3]
  · isplitr; · iexact HW
    isplitl [Hs]; · iexact Hs
    isplitl [Hj]; · iexact Hj
    isplitl [HO]; · iexact HO
    isplitl [Ht2]; · iexact Ht2
    isplitr; · iexact Hr2
    isplitl [Ht3]; · iexact Ht3
    isplitr; · iexact Hr4
    rw [h2]; iexact Hq3
  iintro ⟨Hc, HO⟩
  iapply Hk
  isplitl [Hx]; · iexact Hx
  isplitl [HO]; · iexact HO
  isplitl [Hp1]; · iexact Hp1
  isplitr; · iexact Hq1
  isplitl [Hp2]; · iexact Hp2
  isplitr; · iexact Hq2
  isplitl [Hp3]; · iexact Hp3
  iexact Hc

theorem mid0_run (c u d : Dev nD) (q : Fin 8) (l : List Obl) (hu : u = ups q c) (hd : d = dst q c)
    (hl : Above (3 + 2 * (8 * 0 + q.val)) (⟨d, .rcv q 0, 0⟩ :: l)) (Q : PUnit → sProp 𝕄) :
    iprop(World m K ∗ xH c 2 (xval m c 2) ∗ ow c (⟨u, .fre q, 0⟩ :: ⟨d, .rcv q 0, 0⟩ :: l) ∗ St1 c q)
      ⊢ iprop(((xH c 2 (xval m c 2) ∗ ow c l ∗ St2 c q) -∗ Q ⟨⟩) -∗ Wp c (midBlk (w8 m c) q 1 0 2 u d) Q) := by
  unfold St1 R0 St2
  iintro ⟨#HW, Hx, HO, ⟨Hc, Hc1, Hp1, Hp2, Ht1, Hc3, Hp3, Ht2, Ht3, HR⟩⟩ Hk
  ihave #Hr1 := (World_reached m K c (.rcv q 0)) $$ HW
  ihave #Hr2 := (World_reached m K c (.snd q 1)) $$ HW
  iapply (mid_run m K c u d q 1 0 0 2 l hu hd (.inl ⟨rfl, rfl, rfl⟩) rfl hl) $$ [Hx HO Hc Hc1 Hp1 Hp2 Ht1 Hc3 Hp3 Ht2 Ht3]
  · unfold MidIn
    isplitr; · iexact HW
    isplitl [Hx]; · iexact Hx
    isplitl [HO]; · iexact HO
    isplitl [Hc1]; · iexact Hc1
    isplitl [Hp1]; · iexact Hp1
    isplitl [Hc]; · iexact Hc
    isplitl [Hp2]; · iexact Hp2
    isplitr; · iexact Hr1
    isplitr; · iexact Hr2
    isplitl [Ht1]; · iexact Ht1
    isplitl [Hc3]; · iexact Hc3
    isplitl [Hp3]; · iexact Hp3
    isplitl [Ht2]; · iexact Ht2
    iexact Ht3
  iintro ⟨Hx, HO, HM⟩
  iapply Hk
  isplitl [Hx]; · iexact Hx
  isplitl [HO]; · iexact HO
  isplitl [HM]; · iexact HM
  iexact HR

theorem mid1_run (c u d : Dev nD) (q : Fin 8) (i : Fin 4) (l : List Obl) (hu : u = ups q c) (hd : d = dst q c) (hi : i = hopX 2 q)
    (hl : Above (3 + 2 * (8 * 1 + q.val)) (⟨d, .rcv q 1, 1⟩ :: l)) (Q : PUnit → sProp 𝕄) :
    iprop(World m K ∗ xH c i (xval m c i) ∗ ow c (⟨u, .fre q, 1⟩ :: ⟨d, .rcv q 1, 1⟩ :: l) ∗ St2 c q)
      ⊢ iprop(((xH c i (xval m c i) ∗ ow c l ∗ St3 c q) -∗ Q ⟨⟩) -∗ Wp c (midBlk (w8 m c) q 0 1 i u d) Q) := by
  unfold St2 R1 St3 MidOut
  iintro ⟨#HW, Hx, HO, ⟨⟨Hq1, #Hr1, Hq2, #Hr2, Hp3, Hc⟩, Hc1, Hp1, Hp2, Ht1, Hc3, Ht2, Ht3, HR⟩⟩ Hk
  iapply (mid_run m K c u d q 0 1 1 i l hu hd (.inr ⟨rfl, rfl, rfl⟩) hi hl) $$ [Hx HO Hc Hc1 Hp1 Hp2 Ht1 Hc3 Hp3 Ht2 Ht3]
  · unfold MidIn
    isplitr; · iexact HW
    isplitl [Hx]; · iexact Hx
    isplitl [HO]; · iexact HO
    isplitl [Hc1]; · iexact Hc1
    isplitl [Hp1]; · iexact Hp1
    isplitl [Hc]; · iexact Hc
    isplitl [Hp2]; · iexact Hp2
    isplitr; · iexact Hr1
    isplitr; · iexact Hr2
    isplitl [Ht1]; · iexact Ht1
    isplitl [Hc3]; · iexact Hc3
    isplitl [Hp3]; · iexact Hp3
    isplitl [Ht2]; · iexact Ht2
    iexact Ht3
  unfold MidOut
  iintro ⟨Hx, HO, HM⟩
  iapply Hk
  isplitl [Hx]; · iexact Hx
  isplitl [HO]; · iexact HO
  isplitl [HM]; · iexact HM
  isplitl [Hq1]; · iexact Hq1
  isplitl [Hq2]; · iexact Hq2
  iexact HR

theorem fin_run (c : Dev nD) (q : Fin 8) (Q : PUnit → sProp 𝕄) :
    iprop(World m K ∗ xH c 3 (xval m c 3) ∗ ow c [] ∗ St3 c q)
      ⊢ iprop(((xH c 3 (xval m c 3) ∗ ow c [] ∗ St4 c q) -∗ Q ⟨⟩) -∗ Wp c (finBlk (w8 m c) (scl m c) q) Q) := by
  unfold finBlk St3 R2 MidOut St4 FinOut
  iintro ⟨#HW, Hx, HO, ⟨⟨Hp0, -, Hp1, -, Hp2, Hc2⟩, Hq1, Hq2, Hc1, ⟨%Y, Ho⟩, ⟨%Z, Hres⟩, Ht⟩⟩ Hk
  rw [Wp_bind]
  iapply (wp_loadX c 3) $$ Hx
  iintro Hx
  rw [Wp_bind]
  iapply (wp_waitD m K c (.rcv q 1) (rcvS q 1) rfl 1 1 [] rfl (by show 1 < 1 + 1; decide) (by decide) (Above_nil _) _ _ _ _ (slot_credit q 1)) $$ [Hc1 HO Hq1]
  · isplitr; · iexact HW
    isplitl [Hc1]; · iexact Hc1
    isplitl [HO]; · iexact HO
    iexact Hq1
  iintro ⟨HO, Hq1, -, Hpay⟩
  ihave Hpay := (Entails.of_eq (show pay m c (.rcv q 1) 1 0 = iprop(slotH c q 1 (acc m 2 q (ups q c)) ∗ reached ER (cell (ups q c) (.fre q)) 2) from rfl)) $$ Hpay
  icases Hpay with ⟨Hs, -⟩
  rw [Wp_bind]
  iapply (wp_waitD m K c (.snd q 0) (sndS q 0) rfl 1 0 [] rfl (by show 1 < 2 - 0; decide) (by decide) (Above_nil _) _ _ _ _ (slot_credit q 0)) $$ [Hc2 HO Hq2]
  · isplitr; · iexact HW
    isplitl [Hc2]; · iexact Hc2
    isplitl [HO]; · iexact HO
    iexact Hq2
  iintro ⟨HO, Hq2, -, Hj⟩
  ihave Hj := (Entails.of_eq (show pay m c (.snd q 0) 1 0 = junk c q 0 from rfl)) $$ Hj
  unfold junk
  rw [Wp_bind]
  iapply (wp_loadC c q 1) $$ Hs
  iintro Hs
  rw [Wp_bind]
  iapply (wp_loadO c q) $$ Ho
  iintro Ho
  rw [Wp_bind]
  iapply (wp_storeO c q) $$ Ho
  iintro Ho
  iapply (wp_copyO m K c q Z) $$ [Ho Hres Ht]
  · isplitr; · iexact HW
    isplitl [Ho]; · iexact Ho
    isplitl [Hres]; · iexact Hres
    iexact Ht
  iintro Hc
  iapply Hk
  isplitl [Hx]; · iexact Hx
  isplitl [HO]; · iexact HO
  isplitr [Hp0 Hp1 Hp2]
  · isplitl [Hq1]; · iexact Hq1
    isplitl [Hq2]; · iexact Hq2
    isplitl [Hj]; · iexact Hj
    isplitl [Hs]; · iexists _; iexact Hs
    iexact Hc
  isplitl [Hp0]; · iexact Hp0
  isplitl [Hp1]; · iexact Hp1
  iexact Hp2

end Cert.KernelIdeal.Ring
-- ==== Proof.Stages.lean ====
module

public import proofs.«01_k».proof.Proof.Blocks

/-! The stages of the body, each over all eight streams. -/

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

variable (m : (ℓ : Loc nD τ sig) → Buf (Elt F) ℓ) (K : DK → ℕ)

/-! ## What a device owes, in the order in which it pays -/

/-- The first sends of the streams. -/
def so (c : Dev nD) : List (Fin 8) → List Obl → List Obl
  | [], l => l
  | q :: qs, l => ⟨dst q c, .rcv q 1, 0⟩ :: so c qs l
/-- The two payments of each middle hop. -/
def mo (c : Dev nD) (s : ℕ) (b' : Fin 2) : List (Fin 8) → List Obl → List Obl
  | [], l => l
  | q :: qs, l => ⟨ups q c, .fre q, s⟩ :: ⟨dst q c, .rcv q b', s⟩ :: mo c s b' qs l

abbrev all8 : List (Fin 8) := [0, 1, 2, 3, 4, 5, 6, 7]
/-- What is owed before the second middle hops, before the first ones, and in all. -/
def mo1 (c : Dev nD) (qs : List (Fin 8)) : List Obl := mo c 1 1 qs []
def mo0 (c : Dev nD) (qs : List (Fin 8)) : List Obl := mo c 0 0 qs (mo1 c all8)
def so0 (c : Dev nD) (qs : List (Fin 8)) : List Obl := so c qs (mo0 c all8)
def allO (c : Dev nD) : List Obl := ⟨prv c, .bar, 0⟩ :: ⟨nxt c, .bar, 0⟩ :: so0 c all8

theorem above_so {b : ℕ} (c : Dev nD) {l : List Obl} (hb : b < 2) (hl : Above b l) : ∀ qs, Above b (so c qs l)
  | [] => hl
  | q :: qs => Above_cons ⟨by show 0 < 2; decide, by show b < 2 + 2 * (8 * (2 * 0) + q.val); omega⟩ (above_so c hb hl qs)
theorem above_mo {b : ℕ} (c : Dev nD) (s : ℕ) (b' : Fin 2) (hs : s < 2) (hh : hopOf b' s = s + 1) {l : List Obl}
    (hb : b < 2 + 16 * (s + 1)) (hl : Above b l) :
    ∀ qs : List (Fin 8), (∀ q ∈ qs, b < 3 + 2 * (8 * s + q.val)) → Above b (mo c s b' qs l)
  | [], _ => hl
  | q :: qs, h => Above_cons ⟨hs, h q List.mem_cons_self⟩ (Above_cons ⟨hs, by
      show b < 2 + 2 * (8 * hopOf b' s + q.val); rw [hh]; omega⟩
      (above_mo c s b' hs hh hb hl qs fun q' hq' => h q' (List.mem_cons_of_mem _ hq')))

theorem above_mo1 {b : ℕ} (c : Dev nD) (qs : List (Fin 8)) (h : ∀ q ∈ qs, b < 19 + 2 * q.val) (hb : b < 34) : Above b (mo1 c qs) :=
  above_mo c 1 1 (by decide) rfl (by omega) (Above_nil _) qs fun q hq => by have := h q hq; omega
theorem above_mo0 {b : ℕ} (c : Dev nD) (qs : List (Fin 8)) (h : ∀ q ∈ qs, b < 3 + 2 * q.val) (hb : b < 18) : Above b (mo0 c qs) :=
  above_mo c 0 0 (by decide) rfl (by omega) (above_mo1 c all8 (fun q _ => by omega) (by omega)) qs fun q hq => by have := h q hq; omega

/-! ## A step of a stream -/

theorem seed_step (c d : Dev nD) (q : Fin 8) (i : Fin 4) (qs : List (Fin 8)) (hd : d = dst q c) (hi : i = hopX 0 q) (Q : PUnit → sProp 𝕄) :
    World m K ⊢ iprop(xH c i (xval m c i) -∗ ow c (so0 c (q :: qs)) -∗ St0 c q
      -∗ ((xH c i (xval m c i) ∗ ow c (so0 c qs) ∗ St1 c q) -∗ Q ⟨⟩) -∗ Wp c (seedBlk (w8 m c) q i d) Q) := by
  iintro #HW Hx HO HS Hk
  iapply (seed_run m K c d q i (so0 c qs) hd hi) $$ [Hx HO HS]
  · isplitr; · iexact HW
    isplitl [Hx]; · iexact Hx
    isplitl [HO]; · subst hd; iexact HO
    iexact HS
  iexact Hk

theorem mid0_step (c u d : Dev nD) (q : Fin 8) (qs : List (Fin 8)) (hu : u = ups q c) (hd : d = dst q c) (hq : ∀ q' ∈ qs, q < q')
    (Q : PUnit → sProp 𝕄) :
    World m K ⊢ iprop(xH c 2 (xval m c 2) -∗ ow c (mo0 c (q :: qs)) -∗ St1 c q
      -∗ ((xH c 2 (xval m c 2) ∗ ow c (mo0 c qs) ∗ St2 c q) -∗ Q ⟨⟩) -∗ Wp c (midBlk (w8 m c) q 1 0 2 u d) Q) := by
  iintro #HW Hx HO HS Hk
  iapply (mid0_run m K c u d q (mo0 c qs) hu hd (Above_cons ⟨by show 0 < 2; decide, by
      show 3 + 2 * (8 * 0 + q.val) < 2 + 2 * (8 * 1 + q.val); omega⟩
      (above_mo0 c qs (fun q' h => by have := Fin.lt_def.mp (hq q' h); omega) (by have := q.isLt; omega)))) $$ [Hx HO HS]
  · isplitr; · iexact HW
    isplitl [Hx]; · iexact Hx
    isplitl [HO]; · subst hu hd; iexact HO
    iexact HS
  iexact Hk

theorem mid1_step (c u d : Dev nD) (q : Fin 8) (i : Fin 4) (qs : List (Fin 8)) (hu : u = ups q c) (hd : d = dst q c) (hi : i = hopX 2 q)
    (hq : ∀ q' ∈ qs, q < q') (Q : PUnit → sProp 𝕄) :
    World m K ⊢ iprop(xH c i (xval m c i) -∗ ow c (mo1 c (q :: qs)) -∗ St2 c q
      -∗ ((xH c i (xval m c i) ∗ ow c (mo1 c qs) ∗ St3 c q) -∗ Q ⟨⟩) -∗ Wp c (midBlk (w8 m c) q 0 1 i u d) Q) := by
  iintro #HW Hx HO HS Hk
  iapply (mid1_run m K c u d q i (mo1 c qs) hu hd hi (Above_cons ⟨by show 1 < 2; decide, by
      show 3 + 2 * (8 * 1 + q.val) < 2 + 2 * (8 * 2 + q.val); omega⟩
      (above_mo1 c qs (fun q' h => by have := Fin.lt_def.mp (hq q' h); omega) (by have := q.isLt; omega)))) $$ [Hx HO HS]
  · isplitr; · iexact HW
    isplitl [Hx]; · iexact Hx
    isplitl [HO]; · subst hu hd; iexact HO
    iexact HS
  iexact Hk

theorem fin_step (c : Dev nD) (q : Fin 8) (Q : PUnit → sProp 𝕄) :
    World m K ⊢ iprop(xH c 3 (xval m c 3) -∗ ow c [] -∗ St3 c q
      -∗ ((xH c 3 (xval m c 3) ∗ ow c [] ∗ St4 c q) -∗ Q ⟨⟩) -∗ Wp c (finBlk (w8 m c) (scl m c) q) Q) := by
  iintro #HW Hx HO HS Hk
  iapply (fin_run m K c q) $$ [Hx HO HS]
  · isplitr; · iexact HW
    isplitl [Hx]; · iexact Hx
    isplitl [HO]; · iexact HO
    iexact HS
  iexact Hk

theorem waitX_step (c : Dev nD) (i : Fin 4) (l : List Obl) (h : Above 0 l) (Q : PUnit → sProp 𝕄) :
    World m K ⊢ iprop(cred (tallyAt (cell c (.xin i)) 0 NX) -∗ atPos ER (cell c (.xin i)) 0 ∅ 0 -∗ ow c l
      -∗ ((xH c i (xval m c i) ∗ srcH m c i ∗ atPos ER (cell c (.xin i)) 1 ∅ 0 ∗ ow c l) -∗ Q ⟨⟩) -∗ Wp c (waitX c i) Q) := by
  iintro #HW Hc Hp HO Hk
  unfold waitX
  iapply (wp_waitD m K c (.xin i) (xS i) rfl 0 0 l rfl Nat.one_pos (by decide) h _ _ _ _ (xslot_credit i)) $$ [Hc HO Hp]
  · isplitr; · iexact HW
    isplitl [Hc]; · iexact Hc
    isplitl [HO]; · iexact HO
    iexact Hp
  iintro ⟨HO, Hp, -, Hpay⟩
  ihave Hpay := (Entails.of_eq (show pay m c (.xin i) 0 0 = iprop(srcH m c i ∗ xH c i (xval m c i)) from rfl)) $$ Hpay
  icases Hpay with ⟨Hs, Hx⟩
  iapply Hk
  isplitl [Hx]; · iexact Hx
  isplitl [Hs]; · iexact Hs
  isplitl [Hp]; · iexact Hp
  iexact HO

/-! ## The stages -/

/-- The eight streams side by side. -/
def S8 (Φ : Fin 8 → sProp 𝕄) : sProp 𝕄 := iprop(Φ 0 ∗ Φ 1 ∗ Φ 2 ∗ Φ 3 ∗ Φ 4 ∗ Φ 5 ∗ Φ 6 ∗ Φ 7)

theorem dev_ext {c : Dev nD} {d : ℕ} (hd : d < nD) {e : Dev nD} (h : d = e.val) : (⟨d, hd⟩ : Dev nD) = e := Fin.ext h

set_option maxHeartbeats 2000000 in
theorem seeds_run (c : Dev nD) (Q : PUnit → sProp 𝕄) :
    World m K ⊢ iprop((cred (tallyAt (cell c (.xin 0)) 0 NX) ∗ atPos ER (cell c (.xin 0)) 0 ∅ 0)
      -∗ (cred (tallyAt (cell c (.xin 1)) 0 NX) ∗ atPos ER (cell c (.xin 1)) 0 ∅ 0)
      -∗ ow c (so0 c all8) -∗ S8 (St0 (F := F) c)
      -∗ (((xH c 0 (xval m c 0) ∗ srcH m c 0 ∗ atPos ER (cell c (.xin 0)) 1 ∅ 0)
          ∗ (xH c 1 (xval m c 1) ∗ srcH m c 1 ∗ atPos ER (cell c (.xin 1)) 1 ∅ 0)
          ∗ ow c (mo0 c all8) ∗ S8 (St1 c)) -∗ Q ⟨⟩) -∗ Wp c (seeds c (w8 m c)) Q) := by
  have ha : ∀ qs, Above 0 (so0 c qs) := fun qs => above_so c (by decide) (above_mo0 c all8 (fun q _ => by omega) (by decide)) qs
  unfold S8 seeds
  iintro #HW ⟨Hc0, Hp0⟩ ⟨Hc1, Hp1⟩ HO ⟨H0, H1, H2, H3, H4, H5, H6, H7⟩ Hk
  rw [Wp_bind]; iapply (waitX_step m K c 0 _ (ha _)) $$ HW Hc0 Hp0 HO; iintro ⟨Hx0, Hs0, Hp0, HO⟩
  rw [Wp_bind]; iapply (seed_step m K c _ 0 0 [1, 2, 3, 4, 5, 6, 7] (Fin.ext (k0_dev3_eq c)) rfl) $$ HW Hx0 HO H0; iintro ⟨Hx0, HO, H0⟩
  rw [Wp_bind]; iapply (waitX_step m K c 1 _ (ha _)) $$ HW Hc1 Hp1 HO; iintro ⟨Hx1, Hs1, Hp1, HO⟩
  rw [Wp_bind]; iapply (seed_step m K c _ 1 1 [2, 3, 4, 5, 6, 7] (Fin.ext (k0_dev4_eq c)) rfl) $$ HW Hx1 HO H1; iintro ⟨Hx1, HO, H1⟩
  rw [Wp_bind]; iapply (seed_step m K c _ 2 0 [3, 4, 5, 6, 7] (Fin.ext (k0_dev5_eq c)) rfl) $$ HW Hx0 HO H2; iintro ⟨Hx0, HO, H2⟩
  rw [Wp_bind]; iapply (seed_step m K c _ 3 1 [4, 5, 6, 7] (Fin.ext (k0_dev6_eq c)) rfl) $$ HW Hx1 HO H3; iintro ⟨Hx1, HO, H3⟩
  rw [Wp_bind]; iapply (seed_step m K c _ 4 0 [5, 6, 7] (Fin.ext (k0_dev7_eq c)) rfl) $$ HW Hx0 HO H4; iintro ⟨Hx0, HO, H4⟩
  rw [Wp_bind]; iapply (seed_step m K c _ 5 1 [6, 7] (Fin.ext (k0_dev8_eq c)) rfl) $$ HW Hx1 HO H5; iintro ⟨Hx1, HO, H5⟩
  rw [Wp_bind]; iapply (seed_step m K c _ 6 0 [7] (Fin.ext (k0_dev9_eq c)) rfl) $$ HW Hx0 HO H6; iintro ⟨Hx0, HO, H6⟩
  iapply (seed_step m K c _ 7 1 [] (Fin.ext (k0_dev10_eq c)) rfl) $$ HW Hx1 HO H7; iintro ⟨Hx1, HO, H7⟩
  iapply Hk
  isplitl [Hx0 Hs0 Hp0]
  · isplitl [Hx0]; · iexact Hx0
    isplitl [Hs0] <;> iassumption
  isplitl [Hx1 Hs1 Hp1]
  · isplitl [Hx1]; · iexact Hx1
    isplitl [Hs1] <;> iassumption
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6] <;> iassumption

end Cert.KernelIdeal.Ring
-- ==== Proof.Pro.lean ====
module

public import proofs.«01_k».proof.Proof.Stages

/-! The opening of the body: the fetches, the handshake, the weights and the scales. -/

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

variable (m : (ℓ : Loc nD τ sig) → Buf (Elt F) ℓ) (K : DK → ℕ)

/-- The staged operands. -/
def Stg (c : Dev nD) : sProp 𝕄 :=
  iprop((((c : Thread nD τ).loc cc0_stg0_0) ↦{fullShare} (wstg m c : Buf (Elt F) ((c : Thread nD τ).loc cc0_stg0_0)))
    ∗ (((c : Thread nD τ).loc cc0_stg1_0) ↦{fullShare} (sxstg m c : Buf (Elt F) ((c : Thread nD τ).loc cc0_stg1_0)))
    ∗ (((c : Thread nD τ).loc cc0_stg2_0) ↦{fullShare} (swstg m c : Buf (Elt F) ((c : Thread nD τ).loc cc0_stg2_0))))

/-- What the fetch of operand block `i` uses. -/
def XIn (c : Dev nD) (i : Fin 4) : sProp 𝕄 :=
  iprop(srcH m c i ∗ (∃ Y, xH c i Y) ∗ dutyTok ER (cell c (.xin i)) 0 0)

theorem fetchX_step (c : Dev nD) (i : Fin 4) (Q : PUnit → sProp 𝕄) :
    World m K ⊢ iprop(XIn m c i -∗ (cred (tallyAt (cell c (.xin i)) 0 NX) -∗ Q ⟨⟩) -∗ Wp c (fetchX c i) Q) := by
  unfold XIn
  iintro #HW ⟨Hs, ⟨%Y, Hx⟩, Ht⟩ Hk
  iapply (wp_fetchX m K c i Y) $$ [Hs Hx Ht]
  · isplitr; · iexact HW
    isplitl [Hs]; · iexact Hs
    isplitl [Hx] <;> iassumption
  iexact Hk

theorem bar_step (c d : Dev nD) (j : Fin 8) (l : List Obl) (hj : j ∈ dut .bar 0) (Q : PUnit → sProp 𝕄) :
    World m K ⊢ iprop(ow c (⟨d, .bar, 0⟩ :: l) -∗ dutyTok ER (cell d .bar) 0 j -∗ barPay d j
      -∗ (ow c l -∗ Q ⟨⟩) -∗ Wp c (semSignalWord d barS 1#32) Q) := by
  iintro #HW HO Ht Hp Hk
  ihave #Hr := (World_reached m K d .bar) $$ HW
  iapply (wp_pay m K c d .bar barS rfl j 0 l hj rfl) $$ [HO Ht Hp]
  · isplitr; · iexact HW
    isplitl [HO]; · iexact HO
    isplitl [Ht]; · iexact Ht
    isplitl [Hp]
    · ihave Hp := (Entails.of_eq (show barPay d j = pay m d .bar 0 j from rfl)) $$ Hp
      iexact Hp
    iexact Hr
  iexact Hk

theorem barPay_prv (c : Dev nD) : (barPay (prv c) 0 : sProp 𝕄) = iprop(junk (F := F) c 0 1 ∗ junk c 2 1 ∗ junk c 4 1 ∗ junk c 6 1) := by
  unfold barPay; rw [if_pos rfl, nxt_prv]
theorem barPay_nxt (c : Dev nD) : (barPay (nxt c) 1 : sProp 𝕄) = iprop(junk (F := F) c 1 1 ∗ junk c 3 1 ∗ junk c 5 1 ∗ junk c 7 1) := by
  unfold barPay; rw [if_neg (by decide), prv_nxt]

theorem bar_paid (c : Dev nD) : (bigSep (dut .bar 0) fun j => pay m c .bar 0 j)
    = iprop((junk (F := F) (nxt c) 0 1 ∗ junk (nxt c) 2 1 ∗ junk (nxt c) 4 1 ∗ junk (nxt c) 6 1)
      ∗ (junk (prv c) 1 1 ∗ junk (prv c) 3 1 ∗ junk (prv c) 5 1 ∗ junk (prv c) 7 1)) := by
  rw [show dut .bar 0 = {0, 1} from rfl, bigSep_insert (by decide), bigSep_singleton]
  rfl

set_option maxHeartbeats 1000000 in
theorem pro_run (c : Dev nD) (l : List Obl) (hl : Above 1 l) (Q : (Σ' (_ : FVec F S1024x2048 .fp8e5m2), F .f32) → sProp 𝕄) :
    World m K ⊢ iprop((XIn m c 0 ∗ XIn m c 1 ∗ XIn m c 2 ∗ XIn m c 3)
      -∗ ow c (⟨prv c, .bar, 0⟩ :: ⟨nxt c, .bar, 0⟩ :: l)
      -∗ (dutyTok ER (cell (prv c) .bar) 0 0 ∗ dutyTok ER (cell (nxt c) .bar) 0 1
          ∗ cred (tallyAt (cell c .bar) 0 2) ∗ atPos ER (cell c .bar) 0 ∅ 0)
      -∗ S8 (fun q => junk c q 1) -∗ Stg m c
      -∗ (((cred (tallyAt (cell c (.xin 0)) 0 NX) ∗ cred (tallyAt (cell c (.xin 1)) 0 NX)
            ∗ cred (tallyAt (cell c (.xin 2)) 0 NX) ∗ cred (tallyAt (cell c (.xin 3)) 0 NX))
          ∗ ow c l ∗ atPos ER (cell c .bar) 1 ∅ 0 ∗ S8 (fun q => junk (dst q c) q 1) ∗ Stg m c) -∗ Q ⟨w8 m c, scl m c⟩)
      -∗ Wp c (pro c) Q) := by
  iintro #HW ⟨HX0, HX1, HX2, HX3⟩ HO ⟨Ht0, Ht1, Hc, Hp⟩ HS HG Hk
  unfold S8 pro Stg
  icases HG with ⟨Hw, Hsx, Hsw⟩
  icases HS with ⟨H0, H1, H2, H3, H4, H5, H6, H7⟩
  rw [Wp_bind]; iapply (fetchX_step m K c 0) $$ HW HX0; iintro HX0
  rw [Wp_bind]; iapply (fetchX_step m K c 1) $$ HW HX1; iintro HX1
  rw [Wp_bind]; iapply (fetchX_step m K c 2) $$ HW HX2; iintro HX2
  rw [Wp_bind]; iapply (fetchX_step m K c 3) $$ HW HX3; iintro HX3
  rw [show (⟨k0_dev1 c, k0_dev1_lt c⟩ : Dev nD) = prv c from Fin.ext (k0_dev1_eq c),
    show (⟨k0_dev2 c, k0_dev2_lt c⟩ : Dev nD) = nxt c from Fin.ext (k0_dev2_eq c)]
  ihave Hb := (Entails.of_eq (barPay_prv c).symm) $$ [H0 H2 H4 H6]
  · isplitl [H0]; · iexact H0
    isplitl [H2]; · iexact H2
    isplitl [H4] <;> iassumption
  rw [Wp_bind]; iapply (bar_step m K c (prv c) 0 _ (by decide)) $$ HW HO Ht0 Hb; iintro HO
  ihave Hb := (Entails.of_eq (barPay_nxt c).symm) $$ [H1 H3 H5 H7]
  · isplitl [H1]; · iexact H1
    isplitl [H3]; · iexact H3
    isplitl [H5] <;> iassumption
  rw [Wp_bind]; iapply (bar_step m K c (nxt c) 1 _ (by decide)) $$ HW HO Ht1 Hb; iintro HO
  rw [Wp_bind]
  iapply (wp_waitW m K c .bar barS rfl 2#32 2 rfl rfl 0 0 l (by decide) hl rfl) $$ [Hc HO Hp]
  · isplitr; · iexact HW
    isplitl [Hc]; · iexact Hc
    isplitl [HO] <;> iassumption
  iintro ⟨HO, Hp, -, Hpay⟩
  ihave Hpay := (Entails.of_eq (bar_paid m c)) $$ Hpay
  icases Hpay with ⟨⟨H0, H2, H4, H6⟩, H1, H3, H5, H7⟩
  rw [Wp_bind]
  unfold Prog.lift
  iapply (wp_load 𝒱₀ (c : Thread nD τ) none Set.univ (m := wst) (r := wRect.toLoadRect) (f := wstg m c) (Finset.subset_univ _)) $$ Hw
  iintro Hw
  rw [wp_ret]; imodintro
  rw [Wp_bind]
  unfold smemLoad
  iapply (wp_smemLoadElt 𝒱₀ (c : Thread nD τ) none Set.univ (m := sxst) (r := oneRect) (f := sxstg m c) (Finset.subset_univ _)) $$ Hsx
  iintro Hsx
  rw [wp_ret]; imodintro
  rw [Wp_bind]
  iapply (wp_smemLoadElt 𝒱₀ (c : Thread nD τ) none Set.univ (m := swst) (r := oneRect) (f := swstg m c) (Finset.subset_univ _)) $$ Hsw
  iintro Hsw
  rw [wp_ret]; imodintro
  unfold Wp
  rw [Prog.pure_eq_ret, wp_ret]; imodintro
  unfold w8 scl
  iapply Hk
  isplitl [HX0 HX1 HX2 HX3]
  · isplitl [HX0]; · iexact HX0
    isplitl [HX1]; · iexact HX1
    isplitl [HX2] <;> iassumption
  isplitl [HO]; · iexact HO
  isplitl [Hp]; · iexact Hp
  isplitr [Hw Hsx Hsw]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [Hw]; · iexact Hw
  isplitl [Hsx] <;> iassumption

end Cert.KernelIdeal.Ring
-- ==== Proof.Mids.lean ====
module

public import proofs.«01_k».proof.Proof.Stages

/-! The middle hops of the body, over all eight streams. -/

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

variable (m : (ℓ : Loc nD τ sig) → Buf (Elt F) ℓ) (K : DK → ℕ)

set_option maxHeartbeats 4000000 in
theorem mids0_run (c : Dev nD) (Q : PUnit → sProp 𝕄) :
    World m K ⊢ iprop((cred (tallyAt (cell c (.xin 2)) 0 NX) ∗ atPos ER (cell c (.xin 2)) 0 ∅ 0)
      -∗ ow c (mo0 c all8) -∗ S8 (St1 (F := F) c)
      -∗ (((xH c 2 (xval m c 2) ∗ srcH m c 2 ∗ atPos ER (cell c (.xin 2)) 1 ∅ 0)
          ∗ ow c (mo1 c all8) ∗ S8 (St2 c)) -∗ Q ⟨⟩) -∗ Wp c (mids0 c (w8 m c)) Q) := by
  have ha : Above 0 (mo0 c all8) := above_mo0 c all8 (fun q _ => by omega) (by decide)
  iintro #HW ⟨Hc, Hp⟩ HO HS Hk
  unfold S8 mids0
  icases HS with ⟨H0, H1, H2, H3, H4, H5, H6, H7⟩
  rw [Wp_bind]; iapply (waitX_step m K c 2 _ ha) $$ HW Hc Hp HO; iintro ⟨Hx, Hs, Hp, HO⟩
  rw [Wp_bind]; iapply (mid0_step m K c _ _ 0 [1, 2, 3, 4, 5, 6, 7] (Fin.ext (k0_dev11_eq c)) (Fin.ext (k0_dev12_eq c)) (by decide)) $$ HW Hx HO H0; iintro ⟨Hx, HO, H0⟩
  rw [Wp_bind]; iapply (mid0_step m K c _ _ 1 [2, 3, 4, 5, 6, 7] (Fin.ext (k0_dev13_eq c)) (Fin.ext (k0_dev14_eq c)) (by decide)) $$ HW Hx HO H1; iintro ⟨Hx, HO, H1⟩
  rw [Wp_bind]; iapply (mid0_step m K c _ _ 2 [3, 4, 5, 6, 7] (Fin.ext (k0_dev15_eq c)) (Fin.ext (k0_dev16_eq c)) (by decide)) $$ HW Hx HO H2; iintro ⟨Hx, HO, H2⟩
  rw [Wp_bind]; iapply (mid0_step m K c _ _ 3 [4, 5, 6, 7] (Fin.ext (k0_dev17_eq c)) (Fin.ext (k0_dev18_eq c)) (by decide)) $$ HW Hx HO H3; iintro ⟨Hx, HO, H3⟩
  rw [Wp_bind]; iapply (mid0_step m K c _ _ 4 [5, 6, 7] (Fin.ext (k0_dev19_eq c)) (Fin.ext (k0_dev20_eq c)) (by decide)) $$ HW Hx HO H4; iintro ⟨Hx, HO, H4⟩
  rw [Wp_bind]; iapply (mid0_step m K c _ _ 5 [6, 7] (Fin.ext (k0_dev21_eq c)) (Fin.ext (k0_dev22_eq c)) (by decide)) $$ HW Hx HO H5; iintro ⟨Hx, HO, H5⟩
  rw [Wp_bind]; iapply (mid0_step m K c _ _ 6 [7] (Fin.ext (k0_dev23_eq c)) (Fin.ext (k0_dev24_eq c)) (by decide)) $$ HW Hx HO H6; iintro ⟨Hx, HO, H6⟩
  iapply (mid0_step m K c _ _ 7 [] (Fin.ext (k0_dev25_eq c)) (Fin.ext (k0_dev26_eq c)) (by decide)) $$ HW Hx HO H7; iintro ⟨Hx, HO, H7⟩
  iapply Hk
  isplitl [Hx Hs Hp]
  · isplitl [Hx]; · iexact Hx
    isplitl [Hs] <;> iassumption
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6] <;> iassumption

end Cert.KernelIdeal.Ring
-- ==== Proof.Mids1.lean ====
module

public import proofs.«01_k».proof.Proof.Stages

/-! The second middle hops of the body. -/

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

variable (m : (ℓ : Loc nD τ sig) → Buf (Elt F) ℓ) (K : DK → ℕ)

set_option maxHeartbeats 4000000 in
theorem mids1_run (c : Dev nD) (Q : PUnit → sProp 𝕄) :
    World m K ⊢ iprop(xH c 0 (xval m c 0) -∗ xH c 1 (xval m c 1)
      -∗ ow c (mo1 c all8) -∗ S8 (St2 (F := F) c)
      -∗ ((xH c 0 (xval m c 0) ∗ xH c 1 (xval m c 1) ∗ ow c [] ∗ S8 (St3 c)) -∗ Q ⟨⟩) -∗ Wp c (mids1 c (w8 m c)) Q) := by
  iintro #HW Hx0 Hx1 HO HS Hk
  unfold S8 mids1
  icases HS with ⟨H0, H1, H2, H3, H4, H5, H6, H7⟩
  rw [Wp_bind]; iapply (mid1_step m K c _ _ 0 1 [1, 2, 3, 4, 5, 6, 7] (Fin.ext (k0_dev27_eq c)) (Fin.ext (k0_dev28_eq c)) rfl (by decide)) $$ HW Hx1 HO H0; iintro ⟨Hx1, HO, H0⟩
  rw [Wp_bind]; iapply (mid1_step m K c _ _ 1 0 [2, 3, 4, 5, 6, 7] (Fin.ext (k0_dev29_eq c)) (Fin.ext (k0_dev30_eq c)) rfl (by decide)) $$ HW Hx0 HO H1; iintro ⟨Hx0, HO, H1⟩
  rw [Wp_bind]; iapply (mid1_step m K c _ _ 2 1 [3, 4, 5, 6, 7] (Fin.ext (k0_dev31_eq c)) (Fin.ext (k0_dev32_eq c)) rfl (by decide)) $$ HW Hx1 HO H2; iintro ⟨Hx1, HO, H2⟩
  rw [Wp_bind]; iapply (mid1_step m K c _ _ 3 0 [4, 5, 6, 7] (Fin.ext (k0_dev33_eq c)) (Fin.ext (k0_dev34_eq c)) rfl (by decide)) $$ HW Hx0 HO H3; iintro ⟨Hx0, HO, H3⟩
  rw [Wp_bind]; iapply (mid1_step m K c _ _ 4 1 [5, 6, 7] (Fin.ext (k0_dev35_eq c)) (Fin.ext (k0_dev36_eq c)) rfl (by decide)) $$ HW Hx1 HO H4; iintro ⟨Hx1, HO, H4⟩
  rw [Wp_bind]; iapply (mid1_step m K c _ _ 5 0 [6, 7] (Fin.ext (k0_dev37_eq c)) (Fin.ext (k0_dev38_eq c)) rfl (by decide)) $$ HW Hx0 HO H5; iintro ⟨Hx0, HO, H5⟩
  rw [Wp_bind]; iapply (mid1_step m K c _ _ 6 1 [7] (Fin.ext (k0_dev39_eq c)) (Fin.ext (k0_dev40_eq c)) rfl (by decide)) $$ HW Hx1 HO H6; iintro ⟨Hx1, HO, H6⟩
  iapply (mid1_step m K c _ _ 7 0 [] (Fin.ext (k0_dev41_eq c)) (Fin.ext (k0_dev42_eq c)) rfl (by decide)) $$ HW Hx0 HO H7; iintro ⟨Hx0, HO, H7⟩
  iapply Hk
  isplitl [Hx0]; · iexact Hx0
  isplitl [Hx1]; · iexact Hx1
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6] <;> iassumption

end Cert.KernelIdeal.Ring
-- ==== Proof.Fins.lean ====
module

public import proofs.«01_k».proof.Proof.Stages

/-! The last steps of the streams, and the waits for their results. -/

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

variable (m : (ℓ : Loc nD τ sig) → Buf (Elt F) ℓ) (K : DK → ℕ)

set_option maxHeartbeats 4000000 in
theorem fins_run (c : Dev nD) (Q : PUnit → sProp 𝕄) :
    World m K ⊢ iprop((cred (tallyAt (cell c (.xin 3)) 0 NX) ∗ atPos ER (cell c (.xin 3)) 0 ∅ 0)
      -∗ ow c [] -∗ S8 (St3 (F := F) c)
      -∗ (((xH c 3 (xval m c 3) ∗ srcH m c 3 ∗ atPos ER (cell c (.xin 3)) 1 ∅ 0)
          ∗ ow c [] ∗ S8 (St4 c)) -∗ Q ⟨⟩) -∗ Wp c (fins c (w8 m c) (scl m c)) Q) := by
  iintro #HW ⟨Hc, Hp⟩ HO HS Hk
  unfold S8 fins
  icases HS with ⟨H0, H1, H2, H3, H4, H5, H6, H7⟩
  rw [Wp_bind]; iapply (waitX_step m K c 3 [] (Above_nil _)) $$ HW Hc Hp HO; iintro ⟨Hx, Hs, Hp, HO⟩
  rw [Wp_bind]; iapply (fin_step m K c 0) $$ HW Hx HO H0; iintro ⟨Hx, HO, H0⟩
  rw [Wp_bind]; iapply (fin_step m K c 1) $$ HW Hx HO H1; iintro ⟨Hx, HO, H1⟩
  rw [Wp_bind]; iapply (fin_step m K c 2) $$ HW Hx HO H2; iintro ⟨Hx, HO, H2⟩
  rw [Wp_bind]; iapply (fin_step m K c 3) $$ HW Hx HO H3; iintro ⟨Hx, HO, H3⟩
  rw [Wp_bind]; iapply (fin_step m K c 4) $$ HW Hx HO H4; iintro ⟨Hx, HO, H4⟩
  rw [Wp_bind]; iapply (fin_step m K c 5) $$ HW Hx HO H5; iintro ⟨Hx, HO, H5⟩
  rw [Wp_bind]; iapply (fin_step m K c 6) $$ HW Hx HO H6; iintro ⟨Hx, HO, H6⟩
  iapply (fin_step m K c 7) $$ HW Hx HO H7; iintro ⟨Hx, HO, H7⟩
  iapply Hk
  isplitl [Hx Hs Hp]
  · isplitl [Hx]; · iexact Hx
    isplitl [Hs] <;> iassumption
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6] <;> iassumption

theorem waitO_step (c : Dev nD) (q : Fin 8) (n n' : ℕ) (hn : n < 7) (hn' : n' = n + 1) (Q : PUnit → sProp 𝕄) :
    World m K ⊢ iprop(ow c [] -∗ OutAt m c n -∗ cred (tallyAt (cell c .out) 0 NO)
      -∗ ((ow c [] ∗ OutAt m c n') -∗ Q ⟨⟩) -∗ Wp c (waitO q) Q) := by
  subst hn'
  iintro #HW HO Ha Hc Hk
  iapply (wp_waitO m K c q n hn) $$ [HO Ha Hc]
  · isplitr; · iexact HW
    isplitl [Hc]; · iexact Hc
    isplitl [HO] <;> iassumption
  iexact Hk

theorem OutAt_zero (c : Dev nD) : (atPos ER (cell c .out) 0 ∅ 0 : sProp 𝕄) ⊢ OutAt m c 0 := by
  unfold OutAt
  iintro H
  iexists ∅
  isplitl
  · rw [Nat.zero_mul]; iexact H
  rw [bigSep_empty]; iempintro

theorem outs_run (c : Dev nD) (Q : PUnit → sProp 𝕄) :
    World m K ⊢ iprop(ow c [] -∗ atPos ER (cell c .out) 0 ∅ 0 -∗ S8 (fun _ => cred (tallyAt (cell c .out) 0 NO))
      -∗ ((ow c [] ∗ atPos ER (cell c .out) 1 ∅ 0 ∗ bigSep Finset.univ fun q => pay m c .out 0 q) -∗ Q ⟨⟩) -∗ Wp c outs Q) := by
  iintro #HW HO Ha HS Hk
  unfold S8 outs
  icases HS with ⟨H0, H1, H2, H3, H4, H5, H6, H7⟩
  ihave Ha := (OutAt_zero m c) $$ Ha
  rw [Wp_bind]; iapply (waitO_step m K c _ 0 1 (by decide) rfl) $$ HW HO Ha H0; iintro ⟨HO, Ha⟩
  rw [Wp_bind]; iapply (waitO_step m K c _ 1 2 (by decide) rfl) $$ HW HO Ha H1; iintro ⟨HO, Ha⟩
  rw [Wp_bind]; iapply (waitO_step m K c _ 2 3 (by decide) rfl) $$ HW HO Ha H2; iintro ⟨HO, Ha⟩
  rw [Wp_bind]; iapply (waitO_step m K c _ 3 4 (by decide) rfl) $$ HW HO Ha H3; iintro ⟨HO, Ha⟩
  rw [Wp_bind]; iapply (waitO_step m K c _ 4 5 (by decide) rfl) $$ HW HO Ha H4; iintro ⟨HO, Ha⟩
  rw [Wp_bind]; iapply (waitO_step m K c _ 5 6 (by decide) rfl) $$ HW HO Ha H5; iintro ⟨HO, Ha⟩
  rw [Wp_bind]; iapply (waitO_step m K c _ 6 7 (by decide) rfl) $$ HW HO Ha H6; iintro ⟨HO, Ha⟩
  iapply (wp_waitLast m K c _) $$ [HO Ha H7]
  · isplitr; · iexact HW
    isplitl [H7]; · iexact H7
    isplitl [HO] <;> iassumption
  iexact Hk

end Cert.KernelIdeal.Ring
-- ==== Proof.Body.lean ====
module

public import proofs.«01_k».proof.Proof.Pro
public import proofs.«01_k».proof.Proof.Mids
public import proofs.«01_k».proof.Proof.Mids1
public import proofs.«01_k».proof.Proof.Fins

/-! The whole body: from what a device holds at its start to what it holds at its end. -/

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

variable (m : (ℓ : Loc nD τ sig) → Buf (Elt F) ℓ) (K : DK → ℕ)

theorem S8_eq (Φ : Fin 8 → sProp 𝕄) : S8 Φ = bigSep Finset.univ Φ := by
  rw [bigSep_univ_eq_bigSepL [0, 1, 2, 3, 4, 5, 6, 7] (by decide) (by decide)]; rfl

/-- What a stream holds at the start, but for its neighbour's landing slot. -/
def Pre0 (c : Dev nD) (q : Fin 8) : sProp 𝕄 :=
  iprop(junk c q 0 ∗ dutyTok ER (cell c (.snd q 0)) 0 0 ∗ dutyTok ER (cell (dst q c) (.rcv q 1)) 0 0 ∗ R0 c q)

theorem pre0_join (c : Dev nD) (q : Fin 8) : iprop(Pre0 (F := F) c q ∗ junk (dst q c) q 1) ⊢ St0 c q := by
  unfold Pre0 St0 SeedIn
  iintro ⟨⟨H0, Ht, Ht', HR⟩, H1⟩
  isplitr [HR]
  · isplitl [H0]; · iexact H0
    isplitl [H1]; · iexact H1
    isplitl [Ht] <;> iassumption
  iexact HR

/-- What a stream holds at the end. -/
def Post0 (c : Dev nD) (q : Fin 8) : sProp 𝕄 :=
  iprop((junk c q 0 ∗ junk c q 1)
    ∗ (atPos ER (cell c (.rcv q 1)) 2 ∅ 0 ∗ atPos ER (cell c (.snd q 0)) 2 ∅ 0 ∗ atPos ER (cell c (.rcv q 0)) 1 ∅ 0
      ∗ atPos ER (cell c (.snd q 1)) 1 ∅ 0 ∗ atPos ER (cell c (.fre q)) 2 ∅ 0))

theorem st4_split (c : Dev nD) (q : Fin 8) : St4 (F := F) c q ⊢ iprop(Post0 c q ∗ cred (tallyAt (cell c .out) 0 NO)) := by
  unfold Post0 St4 FinOut
  iintro ⟨⟨Hr1, Hs0, H0, H1, Hc⟩, Hr0, Hs1, Hf⟩
  isplitr [Hc]
  · isplitl [H0 H1]
    · isplitl [H0] <;> iassumption
    isplitl [Hr1]; · iexact Hr1
    isplitl [Hs0]; · iexact Hs0
    isplitl [Hr0]; · iexact Hr0
    isplitl [Hs1] <;> iassumption
  iexact Hc

theorem S8_mono2 {Φ Ψ Ω : Fin 8 → sProp 𝕄} (h : ∀ q, iprop(Φ q ∗ Ψ q) ⊢ Ω q) : iprop(S8 Φ ∗ S8 Ψ) ⊢ S8 Ω := by
  rw [S8_eq, S8_eq, S8_eq, ← bigSep_sep']
  exact bigSep_mono fun q _ => h q
theorem S8_split {Φ Ψ Ω : Fin 8 → sProp 𝕄} (h : ∀ q, Ω q ⊢ iprop(Φ q ∗ Ψ q)) : S8 Ω ⊢ iprop(S8 Φ ∗ S8 Ψ) := by
  rw [S8_eq, S8_eq, S8_eq, ← bigSep_sep']
  exact bigSep_mono fun q _ => h q

/-- An operand block at the end: loaded, its source untouched. -/
def XOut (c : Dev nD) (i : Fin 4) : sProp 𝕄 :=
  iprop(xH c i (xval m c i) ∗ srcH m c i ∗ atPos ER (cell c (.xin i)) 1 ∅ 0)

def X4 (Φ : Fin 4 → sProp 𝕄) : sProp 𝕄 := iprop(Φ 0 ∗ Φ 1 ∗ Φ 2 ∗ Φ 3)
theorem X4_eq (Φ : Fin 4 → sProp 𝕄) : X4 Φ = bigSep Finset.univ Φ := by
  rw [bigSep_univ_eq_bigSepL [0, 1, 2, 3] (by decide) (by decide)]; rfl

def BarIn (c : Dev nD) : sProp 𝕄 :=
  iprop(dutyTok ER (cell (prv c) .bar) 0 0 ∗ dutyTok ER (cell (nxt c) .bar) 0 1
    ∗ cred (tallyAt (cell c .bar) 0 2) ∗ atPos ER (cell c .bar) 0 ∅ 0)

/-- What the body starts from, and what it ends with. -/
def BodyIn (c : Dev nD) : sProp 𝕄 :=
  iprop(X4 (XIn m c) ∗ X4 (fun i => atPos ER (cell c (.xin i)) 0 ∅ 0) ∗ ow c (allO c) ∗ BarIn c ∗ S8 (fun q => junk c q 1) ∗ Stg m c
    ∗ S8 (Pre0 c) ∗ atPos ER (cell c .out) 0 ∅ 0)
def BodyOut (c : Dev nD) : sProp 𝕄 :=
  iprop(X4 (XOut m c) ∗ ow c [] ∗ atPos ER (cell c .bar) 1 ∅ 0 ∗ Stg m c ∗ S8 (Post0 c) ∗ atPos ER (cell c .out) 1 ∅ 0
    ∗ (bigSep Finset.univ fun q => pay m c .out 0 q))

theorem flat_run (c : Dev nD) (Q : PUnit → sProp 𝕄) :
    World m K ⊢ iprop(BodyIn m c -∗ (BodyOut m c -∗ Q ⟨⟩) -∗ Wp c (flat (F := F)) Q) := by
  iintro #HW HB Hk
  unfold BodyIn BodyOut X4 BarIn flat
  icases HB with ⟨HX, ⟨Hp0, Hp1, Hp2, Hp3⟩, HO, Hbar, HJ, HG, HP, Hout⟩
  rw [Wp_bind]
  unfold Prog.lift
  iapply (Entails.of_eq (wp_deviceId 𝒱₀ (c : Thread nD τ) none Set.univ).symm)
  rw [wp_ret]; imodintro
  rw [Wp_bind]
  ihave HO := (Entails.of_eq (show ow (F := F) c (allO c) = ow c (⟨prv c, .bar, 0⟩ :: ⟨nxt c, .bar, 0⟩ :: so0 c all8) from rfl)) $$ HO
  iapply (pro_run m K c (so0 c all8) (above_so c (by decide) (above_mo0 c all8 (fun q _ => by omega) (by decide)) all8)) $$ HW HX HO Hbar HJ HG
  iintro ⟨⟨Hc0, Hc1, Hc2, Hc3⟩, HO, Hbar, HJ, HG⟩
  ihave HS := (S8_mono2 (pre0_join (F := F) c)) $$ [HP HJ]
  · isplitl [HP] <;> iassumption
  dsimp only
  rw [Wp_bind]
  iapply (seeds_run m K c) $$ HW [Hc0 Hp0] [Hc1 Hp1] HO HS
  · isplitl [Hc0] <;> iassumption
  · isplitl [Hc1] <;> iassumption
  iintro ⟨⟨Hx0, Hs0, Hp0⟩, ⟨Hx1, Hs1, Hp1⟩, HO, HS⟩
  rw [Wp_bind]
  iapply (mids0_run m K c) $$ HW [Hc2 Hp2] HO HS
  · isplitl [Hc2] <;> iassumption
  iintro ⟨Hx2, HO, HS⟩
  rw [Wp_bind]
  iapply (mids1_run m K c) $$ HW Hx0 Hx1 HO HS
  iintro ⟨Hx0, Hx1, HO, HS⟩
  rw [Wp_bind]
  iapply (fins_run m K c) $$ HW [Hc3 Hp3] HO HS
  · isplitl [Hc3] <;> iassumption
  iintro ⟨Hx3, HO, HS⟩
  ihave HS := (S8_split (st4_split (F := F) c)) $$ HS
  icases HS with ⟨HS, HC⟩
  iapply (outs_run m K c) $$ HW HO Hout HC
  iintro ⟨HO, Hout, Hpay⟩
  iapply Hk
  isplitl [Hx0 Hs0 Hp0 Hx1 Hs1 Hp1 Hx2 Hx3]
  · unfold XOut
    isplitl [Hx0 Hs0 Hp0]
    · isplitl [Hx0]; · iexact Hx0
      isplitl [Hs0] <;> iassumption
    isplitl [Hx1 Hs1 Hp1]
    · isplitl [Hx1]; · iexact Hx1
      isplitl [Hs1] <;> iassumption
    isplitl [Hx2]; · iexact Hx2
    iexact Hx3
  isplitl [HO]; · iexact HO
  isplitl [Hbar]; · iexact Hbar
  isplitl [HG]; · iexact HG
  isplitl [HS]; · iexact HS
  isplitl [Hout]; · iexact Hout
  iexact Hpay

end Cert.KernelIdeal.Ring
-- ==== Proof.Split.lean ====
module

public import proofs.«01_k».proof.Proof.Body

/-! Whole buffers as the blocks the body works on, and back. -/

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

variable (m : (ℓ : Loc nD τ sig) → Buf (Elt F) ℓ) (K : DK → ℕ)

/-! ## A buffer as a family of rectangles -/

section Glue

variable {sh : Shape} {T α : Type} [Nonempty α] (r : T → Rect sh) (X : (t : T) → (r t).shape.Idx → α)

open Classical in
/-- The contents that read as `X t` on the `t`-th rectangle. -/
def glue (i : sh.Idx) : α :=
  if h : ∃ p : (t : T) × (r t).shape.Idx, (r p.1).emb p.2 = i then X h.choose.1 h.choose.2 else Classical.arbitrary α

theorem glue_emb (hd : ∀ t t', t ≠ t' → Disjoint (r t).set (r t').set) (t : T) (j : (r t).shape.Idx) :
    glue r X ((r t).emb j) = X t j := by
  unfold glue
  have h : ∃ p : (t : T) × (r t).shape.Idx, (r p.1).emb p.2 = (r t).emb j := ⟨⟨t, j⟩, rfl⟩
  rw [dif_pos h]
  have key : ∀ p : (t : T) × (r t).shape.Idx, (r p.1).emb p.2 = (r t).emb j → X p.1 p.2 = X t j := by
    rintro ⟨t', j'⟩ e
    by_cases ht : t' = t
    · subst ht
      exact congrArg (X t') ((r t').emb.injective e)
    · have m1 : (r t').emb j' ∈ (r t').set := by rw [← Rect.map_emb_univ]; exact Finset.mem_map_of_mem _ (Finset.mem_univ _)
      have m2 : (r t).emb j ∈ (r t).set := by rw [← Rect.map_emb_univ]; exact Finset.mem_map_of_mem _ (Finset.mem_univ _)
      exact absurd m2 (Finset.disjoint_left.mp (hd t' t ht) (e ▸ m1))
  exact key _ h.choose_spec

end Glue

section Whole

variable (c : Dev nD) (b : Ref sig .tc) {T : Type} [Fintype T] [DecidableEq T] (r : T → Rect b.ty.shape)
  (hr : ∀ t a, (r t).stride a = 1) (hd : ∀ t t', t ≠ t' → Disjoint (r t).set (r t').set)
  (hcov : (Finset.univ : Finset T).biUnion (fun t => (r t).set) = Finset.univ)
include hd hcov

theorem whole_split (g : b.ty.Contents (Elt F)) :
    ((((c : Thread nD τ).loc b) ↦{fullShare} (g : Buf (Elt F) ((c : Thread nD τ).loc b))) : sProp 𝕄)
      = bigSep Finset.univ fun t => owns (c : Thread nD τ) ((Memref.whole b).slice (r t) (hr t)) fullShare (fun j => g ((r t).emb j)) := by
  have h := pointsTo_rects (Ix := ℕ) (Name := ℕ) (U := UU) (Lvl := ℕ) (c : Thread nD τ) (Memref.whole b) fullShare r hr hd hcov (Val := Elt F) g
  simp only [Memref.view_whole, View.set_whole, View.read_whole] at h
  exact h

theorem whole_join (X : (t : T) → (r t).shape.Idx → Elt F b.ty.elt) :
    (bigSep Finset.univ fun t => owns (c : Thread nD τ) ((Memref.whole b).slice (r t) (hr t)) fullShare (X t))
      = ((((c : Thread nD τ).loc b) ↦{fullShare} (glue r X : Buf (Elt F) ((c : Thread nD τ).loc b))) : sProp 𝕄) := by
  rw [whole_split c b r hr hd hcov (glue r X)]
  exact bigSep_congr fun t _ => by
    rw [show (fun j => glue r X ((r t).emb j)) = X t from funext fun j => glue_emb r X hd t j]

theorem any_split :
    iprop(∃ g : Buf (Elt F) ((c : Thread nD τ).loc b), ((c : Thread nD τ).loc b) ↦{fullShare} g)
      ⊢ (bigSep Finset.univ fun t => iprop(∃ X, owns (c : Thread nD τ) ((Memref.whole b).slice (r t) (hr t)) fullShare X) : sProp 𝕄) := by
  iintro ⟨%g, H⟩
  ihave H := (Entails.of_eq (whole_split c b r hr hd hcov g)) $$ H
  have h : (bigSep Finset.univ fun t => owns (c : Thread nD τ) ((Memref.whole b).slice (r t) (hr t)) fullShare (fun j => g ((r t).emb j)) : sProp 𝕄)
      ⊢ (bigSep Finset.univ fun t => iprop(∃ X, owns (c : Thread nD τ) ((Memref.whole b).slice (r t) (hr t)) fullShare X) : sProp 𝕄) :=
    bigSep_mono fun t _ => show (owns (c : Thread nD τ) ((Memref.whole b).slice (r t) (hr t)) fullShare (fun j => g ((r t).emb j)) : sProp 𝕄)
        ⊢ iprop(∃ X, owns (c : Thread nD τ) ((Memref.whole b).slice (r t) (hr t)) fullShare X) from by
      iintro H; iexists _; iexact H
  iapply h
  iexact H

theorem any_join :
    (bigSep Finset.univ fun t => iprop(∃ X, owns (c : Thread nD τ) ((Memref.whole b).slice (r t) (hr t)) fullShare X) : sProp 𝕄)
      ⊢ iprop(∃ g : Buf (Elt F) ((c : Thread nD τ).loc b), ((c : Thread nD τ).loc b) ↦{fullShare} g) := by
  iintro H
  ihave H := (BI.bigSep_exists_pi Finset.univ (fun t (X : (r t).shape.Idx → Elt F b.ty.elt) =>
    (owns (c : Thread nD τ) ((Memref.whole b).slice (r t) (hr t)) fullShare X : sProp 𝕄))) $$ H
  icases H with ⟨%X, H⟩
  iexists (glue r X)
  ihave H := (Entails.of_eq (whole_join c b r hr hd hcov X)) $$ H
  iexact H

end Whole

/-! ## The four families -/

theorem slots_disjoint : ∀ t t' : Fin 8 × Fin 2, t ≠ t' → Disjoint (slotR t.1 t.2).set (slotR t'.1 t'.2).set := by
  rintro ⟨q, b⟩ ⟨q', b'⟩ h
  by_cases hq : q = q'
  · have hb : b.val ≠ b'.val := fun e => h (by rw [hq, Fin.ext e])
    exact Rect.unit_disjoint 1 (by show b.val + 1 ≤ b'.val ∨ b'.val + 1 ≤ b.val; omega)
  · have hb : q.val ≠ q'.val := fun e => hq (Fin.ext e)
    exact Rect.unit_disjoint 0 (by show q.val + 1 ≤ q'.val ∨ q'.val + 1 ≤ q.val; omega)

theorem slots_cover : (Finset.univ : Finset (Fin 8 × Fin 2)).biUnion (fun t => (slotR t.1 t.2).set) = Finset.univ := by
  ext i
  simp only [Finset.mem_biUnion, Finset.mem_univ, true_and, iff_true]
  refine ⟨(⟨(i 0).val, (i 0).isLt⟩, ⟨(i 1).val, (i 1).isLt⟩), Rect.mem_set_unit.mpr fun a => ?_⟩
  have h2 : (i 2).val < 1024 := (i 2).isLt
  have h3 : (i 3).val < 256 := (i 3).isLt
  fin_cases a
  · exact ⟨le_refl _, Nat.lt_succ_self _⟩
  · exact ⟨le_refl _, Nat.lt_succ_self _⟩
  · exact ⟨Nat.zero_le _, by show (i 2).val < 0 + 1024; omega⟩
  · exact ⟨Nat.zero_le _, by show (i 3).val < 0 + 256; omega⟩

theorem xslots_disjoint : ∀ t t' : Fin 4, t ≠ t' → Disjoint (xslotR t).set (xslotR t').set := by
  intro t t' h
  have hb : t.val ≠ t'.val := fun e => h (Fin.ext e)
  exact Rect.unit_disjoint 0 (by show t.val + 1 ≤ t'.val ∨ t'.val + 1 ≤ t.val; omega)

theorem xslots_cover : (Finset.univ : Finset (Fin 4)).biUnion (fun t => (xslotR t).set) = Finset.univ := by
  ext i
  simp only [Finset.mem_biUnion, Finset.mem_univ, true_and, iff_true]
  refine ⟨⟨(i 0).val, (i 0).isLt⟩, Rect.mem_set_unit.mpr fun a => ?_⟩
  have h1 : (i 1).val < 1024 := (i 1).isLt
  have h2 : (i 2).val < 1024 := (i 2).isLt
  fin_cases a
  · exact ⟨le_refl _, Nat.lt_succ_self _⟩
  · exact ⟨Nat.zero_le _, by show (i 1).val < 0 + 1024; omega⟩
  · exact ⟨Nat.zero_le _, by show (i 2).val < 0 + 1024; omega⟩

theorem cols_disjoint : ∀ t t' : Fin 8, t ≠ t' → Disjoint (colR t).set (colR t').set := by
  intro t t' h
  have hb : t.val ≠ t'.val := fun e => h (Fin.ext e)
  exact Rect.unit_disjoint 1 (by
    show t.val / 2 * 256 + t.val % 2 * 1024 + 256 ≤ t'.val / 2 * 256 + t'.val % 2 * 1024
      ∨ t'.val / 2 * 256 + t'.val % 2 * 1024 + 256 ≤ t.val / 2 * 256 + t.val % 2 * 1024
    omega)

theorem cols_cover : (Finset.univ : Finset (Fin 8)).biUnion (fun t => (colR t).set) = Finset.univ := by
  ext i
  simp only [Finset.mem_biUnion, Finset.mem_univ, true_and, iff_true]
  have h0 : (i 0).val < 1024 := (i 0).isLt
  have h1 : (i 1).val < 2048 := (i 1).isLt
  refine ⟨⟨2 * ((i 1).val % 1024 / 256) + (i 1).val / 1024, by omega⟩, Rect.mem_set_unit.mpr fun a => ?_⟩
  fin_cases a
  · exact ⟨Nat.zero_le _, by show (i 0).val < 0 + 1024; omega⟩
  · constructor
    · show (2 * ((i 1).val % 1024 / 256) + (i 1).val / 1024) / 2 * 256 + (2 * ((i 1).val % 1024 / 256) + (i 1).val / 1024) % 2 * 1024 ≤ (i 1).val
      omega
    · show (i 1).val < (2 * ((i 1).val % 1024 / 256) + (i 1).val / 1024) / 2 * 256 + (2 * ((i 1).val % 1024 / 256) + (i 1).val / 1024) % 2 * 1024 + 256
      omega

/-- Which row block of the operand device `c` fetches into its block `i`. -/
def chk (c : Dev nD) (i : Fin 4) : ℕ :=
  (c.val + (match i.val with | 0 => 3 | 1 => 1 | 2 => 2 | _ => 0)) % 4

theorem xoff_eq (c : Dev nD) (i : Fin 4) : xoff c i = ![1024 * chk c i, 0] := by
  revert c i; decide +kernel

theorem chk_inj (c : Dev nD) (i i' : Fin 4) (h : i ≠ i') : chk c i ≠ chk c i' := by
  revert c i i'; decide +kernel
theorem chk_surj (c : Dev nD) (n : Fin 4) : ∃ i, chk c i = n.val := by
  revert c n; decide +kernel

theorem rows_disjoint (c : Dev nD) : ∀ t t' : Fin 4, t ≠ t' → Disjoint (xsrcR c t).set (xsrcR c t').set := by
  intro t t' h
  have := chk_inj c t t' h
  exact Rect.unit_disjoint 0 (by
    rw [xoff_eq, xoff_eq]
    show 1024 * chk c t + 1024 ≤ 1024 * chk c t' ∨ 1024 * chk c t' + 1024 ≤ 1024 * chk c t
    omega)

theorem rows_cover (c : Dev nD) : (Finset.univ : Finset (Fin 4)).biUnion (fun t => (xsrcR c t).set) = Finset.univ := by
  ext i
  simp only [Finset.mem_biUnion, Finset.mem_univ, true_and, iff_true]
  have h0 : (i 0).val < 4096 := (i 0).isLt
  have h1 : (i 1).val < 1024 := (i 1).isLt
  obtain ⟨t, ht⟩ := chk_surj c ⟨(i 0).val / 1024, by omega⟩
  refine ⟨t, Rect.mem_set_unit.mpr fun a => ?_⟩
  rw [xoff_eq, ht]
  fin_cases a
  · constructor
    · show 1024 * ((i 0).val / 1024) ≤ (i 0).val
      omega
    · show (i 0).val < 1024 * ((i 0).val / 1024) + 1024
      omega
  · exact ⟨Nat.zero_le _, by show (i 1).val < 0 + 1024; omega⟩

/-! ## The device's buffers -/

section Buffers

variable (c : Dev nD)

theorem comm_split :
    iprop(∃ g : Buf (Elt F) ((c : Thread nD τ).loc cc0_scratch0), ((c : Thread nD τ).loc cc0_scratch0) ↦{fullShare} g)
      ⊢ (bigSep Finset.univ fun t : Fin 8 × Fin 2 => junk c t.1 t.2 : sProp 𝕄) :=
  any_split c cc0_scratch0 (fun t : Fin 8 × Fin 2 => slotR t.1 t.2) (fun _ _ => rfl) slots_disjoint slots_cover
theorem comm_join :
    (bigSep Finset.univ fun t : Fin 8 × Fin 2 => junk c t.1 t.2 : sProp 𝕄)
      ⊢ iprop(∃ g : Buf (Elt F) ((c : Thread nD τ).loc cc0_scratch0), ((c : Thread nD τ).loc cc0_scratch0) ↦{fullShare} g) :=
  any_join c cc0_scratch0 (fun t : Fin 8 × Fin 2 => slotR t.1 t.2) (fun _ _ => rfl) slots_disjoint slots_cover

theorem xbuf_split :
    iprop(∃ g : Buf (Elt F) ((c : Thread nD τ).loc cc0_scratch1), ((c : Thread nD τ).loc cc0_scratch1) ↦{fullShare} g)
      ⊢ (bigSep Finset.univ fun i : Fin 4 => iprop(∃ Y, xH c i Y) : sProp 𝕄) :=
  any_split c cc0_scratch1 xslotR (fun _ _ => rfl) xslots_disjoint xslots_cover
theorem xbuf_join :
    (bigSep Finset.univ fun i : Fin 4 => iprop(∃ Y, xH c i Y) : sProp 𝕄)
      ⊢ iprop(∃ g : Buf (Elt F) ((c : Thread nD τ).loc cc0_scratch1), ((c : Thread nD τ).loc cc0_scratch1) ↦{fullShare} g) :=
  any_join c cc0_scratch1 xslotR (fun _ _ => rfl) xslots_disjoint xslots_cover

theorem obuf_split :
    iprop(∃ g : Buf (Elt F) ((c : Thread nD τ).loc cc0_scratch2), ((c : Thread nD τ).loc cc0_scratch2) ↦{fullShare} g)
      ⊢ (bigSep Finset.univ fun q : Fin 8 => iprop(∃ Y, ocolH c q Y) : sProp 𝕄) :=
  any_split c cc0_scratch2 colR (fun _ _ => rfl) cols_disjoint cols_cover
theorem obuf_join :
    (bigSep Finset.univ fun q : Fin 8 => iprop(∃ Y, ocolH c q Y) : sProp 𝕄)
      ⊢ iprop(∃ g : Buf (Elt F) ((c : Thread nD τ).loc cc0_scratch2), ((c : Thread nD τ).loc cc0_scratch2) ↦{fullShare} g) :=
  any_join c cc0_scratch2 colR (fun _ _ => rfl) cols_disjoint cols_cover

theorem res_split :
    iprop(∃ g : Buf (Elt F) ((c : Thread nD τ).loc main_v1), ((c : Thread nD τ).loc main_v1) ↦{fullShare} g)
      ⊢ (bigSep Finset.univ fun q : Fin 8 => iprop(∃ Y, rcolH c q Y) : sProp 𝕄) :=
  any_split c main_v1 colR (fun _ _ => rfl) cols_disjoint cols_cover

instance : Nonempty (F .f32) := Elt.nonempty F .f32

/-- What the result buffer of device `c` holds at the end. -/
def outBuf : main_v1.ty.Contents (Elt F) := glue (sh := S1024x2048) (α := Elt F .f32) colR (fun q => outv m q c)

theorem outBuf_emb (q : Fin 8) (j : S1024x256.Idx) : outBuf m c ((colR q).emb j) = outv m q c j :=
  glue_emb (sh := S1024x2048) (α := Elt F .f32) colR (fun q => outv m q c) cols_disjoint q j

theorem res_join :
    (bigSep Finset.univ fun q : Fin 8 => rcolH c q (outv m q c) : sProp 𝕄)
      ⊢ (((c : Thread nD τ).loc main_v1) ↦{fullShare} (outBuf m c : Buf (Elt F) ((c : Thread nD τ).loc main_v1))) :=
  Entails.of_eq (whole_join c main_v1 colR (fun _ _ => rfl) cols_disjoint cols_cover (fun q => outv m q c))

theorem src_eq :
    ((((c : Thread nD τ).loc main_arg0) ↦{fullShare} (m ((c : Thread nD τ).loc main_arg0))) : sProp 𝕄)
      = bigSep Finset.univ fun i : Fin 4 => srcH m c i := by
  rw [whole_split c main_arg0 (xsrcR c) (fun _ _ => rfl) (rows_disjoint c) (rows_cover c) (m ((c : Thread nD τ).loc main_arg0))]
  exact bigSep_congr fun i _ => by
    unfold srcH
    exact owns_slice_read (Ix := ℕ) (Name := ℕ) (U := UU) (Lvl := ℕ) (c : Thread nD τ) xin fullShare (xsrcR c i) (fun _ => rfl) (Val := Elt F) (m ((c : Thread nD τ).loc main_arg0))

end Buffers

end Cert.KernelIdeal.Ring
-- ==== Proof.Keys.lean ====
module

public import proofs.«01_k».proof.Proof.Split

/-! How the launch deals the tokens and the credits. -/

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig ℕ (Elt F) ℕ UU ℕ

variable (m : (ℓ : Loc nD τ sig) → Buf (Elt F) ℓ)

theorem big_mono {I : Type} [DecidableEq I] {S : Finset I} {Φ Ψ : I → sProp 𝕄} (h : ∀ i, Φ i ⊢ Ψ i) : bigSep S Φ ⊢ bigSep S Ψ :=
  bigSep_mono fun i _ => h i
theorem big_elim {I : Type} [DecidableEq I] {S : Finset I} (Φ : I → sProp 𝕄) {i : I} (h : i ∈ S) : bigSep S Φ ⊢ Φ i := bigSep_elim h

theorem swap {I J : Type} [Fintype I] [Fintype J] (Φ : I → J → sProp 𝕄) :
    (bigSep Finset.univ fun i => bigSep Finset.univ fun j => Φ i j) = bigSep Finset.univ fun j => bigSep Finset.univ fun i => Φ i j := by
  rw [← bigSep_univ_prod (fun x : I × J => Φ x.1 x.2), bigSep_univ_equiv (Equiv.prodComm J I), bigSep_univ_prod]
  rfl

/-! ## The semaphores one kind at a time -/

theorem bigSep_two (Φ : Fin 2 → sProp 𝕄) : bigSep Finset.univ Φ = iprop(Φ 0 ∗ Φ 1) :=
  bigSep_univ_eq_bigSepL [0, 1] (by decide) (by decide) Φ
theorem bigSep_one (Φ : Unit → sProp 𝕄) : bigSep Finset.univ Φ = Φ () :=
  bigSep_univ_eq_bigSepL [()] (by decide) (by decide) Φ

/-- A stream's five semaphores. -/
def five (Φ : Key → sProp 𝕄) (q : Fin 8) : sProp 𝕄 :=
  iprop(Φ (.snd q 0) ∗ Φ (.snd q 1) ∗ Φ (.rcv q 0) ∗ Φ (.rcv q 1) ∗ Φ (.fre q))

theorem bigSep_key (Φ : Key → sProp 𝕄) :
    bigSep Finset.univ Φ = iprop(Φ .bar ∗ (bigSep Finset.univ fun q : Fin 8 => iprop(Φ (.snd q 0) ∗ Φ (.snd q 1)))
      ∗ (bigSep Finset.univ fun q : Fin 8 => iprop(Φ (.rcv q 0) ∗ Φ (.rcv q 1)))
      ∗ (bigSep Finset.univ fun q : Fin 8 => Φ (.fre q)) ∗ (bigSep Finset.univ fun i : Fin 4 => Φ (.xin i)) ∗ Φ .out) := by
  rw [bigSep_univ_equiv keyEquiv, BI.bigSep_univ_sum, BI.bigSep_univ_sum, BI.bigSep_univ_sum, BI.bigSep_univ_sum, BI.bigSep_univ_sum,
    bigSep_univ_prod, bigSep_univ_prod, bigSep_one, bigSep_one]
  simp only [bigSep_two]
  rfl

theorem bigSep_key_split (Φ : Key → sProp 𝕄) :
    bigSep Finset.univ Φ ⊢ iprop(Φ .bar ∗ (bigSep Finset.univ (five Φ)) ∗ (bigSep Finset.univ fun i : Fin 4 => Φ (.xin i)) ∗ Φ .out) := by
  rw [bigSep_key]
  unfold five
  simp only [bigSep_sep']
  iintro ⟨HB, ⟨H1, H2⟩, ⟨H3, H4⟩, H5, HX, HO⟩
  isplitl [HB]; · iexact HB
  isplitl [H1 H2 H3 H4 H5]
  · isplitl [H1]; · iexact H1
    isplitl [H2]; · iexact H2
    isplitl [H3]; · iexact H3
    isplitl [H4]; · iexact H4
    iexact H5
  isplitl [HX]; · iexact HX
  iexact HO

theorem bigSep_key_join (Φ : Key → sProp 𝕄) :
    iprop(Φ .bar ∗ (bigSep Finset.univ (five Φ)) ∗ (bigSep Finset.univ fun i : Fin 4 => Φ (.xin i)) ∗ Φ .out) ⊢ bigSep Finset.univ Φ := by
  rw [bigSep_key]
  unfold five
  simp only [bigSep_sep']
  iintro ⟨HB, ⟨H1, H2, H3, H4, H5⟩, HX, HO⟩
  isplitl [HB]; · iexact HB
  isplitl [H1 H2]
  · isplitl [H1]; · iexact H1
    iexact H2
  isplitl [H3 H4]
  · isplitl [H3]; · iexact H3
    iexact H4
  isplitl [H5]; · iexact H5
  isplitl [HX]; · iexact HX
  iexact HO

/-! ## Tokens -/

/-- All the duty tokens of one semaphore. -/
def tokC (c : Dev nD) (k : Key) : sProp 𝕄 :=
  bigSep Finset.univ fun r : Fin 2 => bigSep (dut k r.val) fun d => dutyTok ER (cell c k) r.val d

theorem tok_rounds (c : Dev nD) (k : Key) (hb : base k = {0}) (h : rnd k = 2) :
    tokC (F := F) c k ⊢ iprop(dutyTok ER (cell c k) 0 0 ∗ dutyTok ER (cell c k) 1 0) := by
  unfold tokC
  rw [bigSep_two]
  show iprop((bigSep (dut k 0) fun d => dutyTok ER (cell c k) 0 d) ∗ (bigSep (dut k 1) fun d => dutyTok ER (cell c k) 1 d)) ⊢ _
  rw [dut_one k hb 0 (by omega), dut_one k hb 1 (by omega), bigSep_singleton, bigSep_singleton]

theorem tok_round (c : Dev nD) (k : Key) (d : Fin 8) (hd : d ∈ dut k 0) :
    tokC (F := F) c k ⊢ iprop(dutyTok ER (cell c k) 0 d) := by
  unfold tokC
  rw [bigSep_two]
  show iprop((bigSep (dut k 0) fun d => dutyTok ER (cell c k) 0 d) ∗ _) ⊢ _
  iintro ⟨H, -⟩
  ihave H := (big_elim (fun d => (dutyTok ER (cell c k) 0 d : sProp 𝕄)) hd) $$ H
  iexact H

theorem tok_bar (c : Dev nD) :
    tokC (F := F) c .bar ⊢ iprop(dutyTok ER (cell c .bar) 0 0 ∗ dutyTok ER (cell c .bar) 0 1) := by
  unfold tokC
  rw [bigSep_two]
  show iprop((bigSep ({0, 1} : Finset (Fin 8)) fun d => dutyTok ER (cell c .bar) 0 d) ∗ _) ⊢ _
  rw [show (bigSep ({0, 1} : Finset (Fin 8)) fun d => dutyTok ER (cell c .bar) 0 d : sProp 𝕄)
      = iprop(dutyTok ER (cell c .bar) 0 0 ∗ dutyTok ER (cell c .bar) 0 1) from (bigSep_insert (by decide)).trans (by rw [bigSep_singleton]; rfl)]
  iintro ⟨⟨H1, H2⟩, -⟩
  isplitl [H1]; · iexact H1
  iexact H2

theorem tok_out (c : Dev nD) :
    tokC (F := F) c .out ⊢ (bigSep Finset.univ fun q : Fin 8 => dutyTok ER (cell c .out) 0 q : sProp 𝕄) := by
  unfold tokC
  rw [bigSep_two]
  iintro ⟨H, -⟩
  iexact H

def SQ (c : Dev nD) (q : Fin 8) : sProp 𝕄 :=
  iprop(dutyTok ER (cell c (.snd q 0)) 0 0 ∗ dutyTok ER (cell c (.snd q 0)) 1 0 ∗ dutyTok ER (cell c (.snd q 1)) 0 0)
def RQ (c : Dev nD) (q : Fin 8) : sProp 𝕄 :=
  iprop(dutyTok ER (cell c (.rcv q 0)) 0 0 ∗ dutyTok ER (cell c (.rcv q 1)) 0 0 ∗ dutyTok ER (cell c (.rcv q 1)) 1 0)
def FQ (c : Dev nD) (q : Fin 8) : sProp 𝕄 :=
  iprop(dutyTok ER (cell c (.fre q)) 0 0 ∗ dutyTok ER (cell c (.fre q)) 1 0)

/-- The tokens of a device's own semaphores. -/
def Own (c : Dev nD) : sProp 𝕄 :=
  iprop(dutyTok ER (cell c .bar) 0 0 ∗ dutyTok ER (cell c .bar) 0 1 ∗ (bigSep Finset.univ fun q => SQ c q)
    ∗ (bigSep Finset.univ fun q => RQ c q) ∗ (bigSep Finset.univ fun q => FQ c q)
    ∗ (bigSep Finset.univ fun i : Fin 4 => dutyTok ER (cell c (.xin i)) 0 0) ∗ (bigSep Finset.univ fun q : Fin 8 => dutyTok ER (cell c .out) 0 q))
/-- The tokens a device pays with. -/
def PayT (c : Dev nD) : sProp 𝕄 :=
  iprop(dutyTok ER (cell (prv c) .bar) 0 0 ∗ dutyTok ER (cell (nxt c) .bar) 0 1 ∗ (bigSep Finset.univ fun q => SQ c q)
    ∗ (bigSep Finset.univ fun q => RQ (dst q c) q) ∗ (bigSep Finset.univ fun q => FQ (ups q c) q)
    ∗ (bigSep Finset.univ fun i : Fin 4 => dutyTok ER (cell c (.xin i)) 0 0) ∗ (bigSep Finset.univ fun q : Fin 8 => dutyTok ER (cell c .out) 0 q))

theorem five_own (c : Dev nD) (q : Fin 8) : five (tokC (F := F) c) q ⊢ iprop(SQ c q ∗ RQ c q ∗ FQ c q) := by
  unfold five SQ RQ FQ
  iintro ⟨H1, H2, H3, H4, H5⟩
  ihave H1 := (tok_rounds c (.snd q 0) rfl rfl) $$ H1
  ihave H2 := (tok_round c (.snd q 1) 0 (Finset.mem_singleton_self _)) $$ H2
  ihave H3 := (tok_round c (.rcv q 0) 0 (Finset.mem_singleton_self _)) $$ H3
  ihave H4 := (tok_rounds c (.rcv q 1) rfl rfl) $$ H4
  ihave H5 := (tok_rounds c (.fre q) rfl rfl) $$ H5
  icases H1 with ⟨H1, H1'⟩
  isplitl [H1 H1' H2]
  · isplitl [H1]; · iexact H1
    isplitl [H1']; · iexact H1'
    iexact H2
  isplitl [H3 H4]
  · isplitl [H3]; · iexact H3
    iexact H4
  iexact H5

theorem own_of (c : Dev nD) : (bigSep Finset.univ (tokC (F := F) c)) ⊢ Own c := by
  unfold Own
  iintro H
  ihave H := (bigSep_key_split (tokC (F := F) c)) $$ H
  icases H with ⟨HB, HQ, HX, HO⟩
  ihave HB := (tok_bar c) $$ HB
  ihave HQ := (show (bigSep Finset.univ (five (tokC (F := F) c)) : sProp 𝕄)
      ⊢ iprop((bigSep Finset.univ fun q => SQ c q) ∗ (bigSep Finset.univ fun q => RQ c q) ∗ (bigSep Finset.univ fun q => FQ c q)) from by
    rw [← bigSep_sep', ← bigSep_sep']; exact big_mono (five_own c)) $$ HQ
  ihave HX := (big_mono fun i : Fin 4 => tok_round (F := F) c (.xin i) 0 (Finset.mem_singleton_self _)) $$ HX
  ihave HO := (tok_out c) $$ HO
  icases HB with ⟨HB, HB'⟩
  icases HQ with ⟨HS, HR, HF⟩
  isplitl [HB]; · iexact HB
  isplitl [HB']; · iexact HB'
  isplitl [HS]; · iexact HS
  isplitl [HR]; · iexact HR
  isplitl [HF]; · iexact HF
  isplitl [HX]; · iexact HX
  iexact HO

/-- The tokens dealt to the devices that pay with them. -/
theorem toks_dealt : (bigSep Finset.univ fun c : Dev nD => (Own c : sProp 𝕄)) ⊢ bigSep Finset.univ fun c : Dev nD => PayT c := by
  have hR : (bigSep Finset.univ fun c : Dev nD => bigSep Finset.univ fun q : Fin 8 => (RQ c q : sProp 𝕄))
      = bigSep Finset.univ fun c : Dev nD => bigSep Finset.univ fun q : Fin 8 => RQ (dst q c) q :=
    (swap _).trans ((bigSep_congr fun q _ => bigSep_univ_equiv (around q) fun c => (RQ c q : sProp 𝕄)).trans (swap _))
  have hF : (bigSep Finset.univ fun c : Dev nD => bigSep Finset.univ fun q : Fin 8 => (FQ c q : sProp 𝕄))
      = bigSep Finset.univ fun c : Dev nD => bigSep Finset.univ fun q : Fin 8 => FQ (ups q c) q :=
    (swap _).trans ((bigSep_congr fun q _ => bigSep_univ_equiv (around q).symm fun c => (FQ c q : sProp 𝕄)).trans (swap _))
  have hb0 : (bigSep Finset.univ fun c : Dev nD => (dutyTok ER (cell c .bar) 0 0 : sProp 𝕄))
      = bigSep Finset.univ fun c : Dev nD => dutyTok ER (cell (prv c) .bar) 0 0 :=
    bigSep_univ_equiv ring.symm fun c => (dutyTok ER (cell c .bar) 0 0 : sProp 𝕄)
  have hb1 : (bigSep Finset.univ fun c : Dev nD => (dutyTok ER (cell c .bar) 0 1 : sProp 𝕄))
      = bigSep Finset.univ fun c : Dev nD => dutyTok ER (cell (nxt c) .bar) 0 1 :=
    bigSep_univ_equiv ring fun c => (dutyTok ER (cell c .bar) 0 1 : sProp 𝕄)
  refine Entails.of_eq ?_
  unfold Own PayT
  simp only [bigSep_sep']
  rw [hR, hF, hb0, hb1]

/-! ## Credits -/

abbrev O₀ (c : Dev nD) : CellTallies nD τ sig ℕ := tall (allO c)

/-- How many entries of a list pay a device's semaphore at a round. -/
def cnt (l : List Obl) (c : Dev nD) (k : Key) (r : ℕ) : ℕ := l.countP fun x => decide (x.dev = c ∧ x.key = k ∧ x.at' = r)

theorem tall_apply (l : List Obl) (c : Dev nD) (k : Key) (r : ℕ) : tall l (cell c k) r = cnt l c k r * amt k := by
  induction l with
  | nil => unfold cnt; rw [List.countP_nil, Nat.zero_mul]; rfl
  | cons x l ih =>
    unfold cnt at ih ⊢
    rw [tall_cons, Pi.add_apply, Finsupp.add_apply, ih, tallyAt_apply, List.countP_cons, Nat.add_mul]
    congr 1
    by_cases h : x.dev = c ∧ x.key = k ∧ x.at' = r
    · obtain ⟨h1, h2, h3⟩ := h
      rw [if_pos ⟨by rw [h1, h2], h3.symm⟩, if_pos (decide_eq_true ⟨h1, h2, h3⟩), Nat.one_mul, h2]
    · rw [if_neg (fun ⟨h1, h2⟩ => h ⟨(cell_inj h1).1.symm, (cell_inj h1).2.symm, h2.symm⟩), if_neg (fun e => h (of_decide_eq_true e)), Nat.zero_mul]

theorem all_at (c : Dev nD) : ∀ x ∈ allO c, x.at' < 2 := by revert c; decide +kernel

theorem cnt_late (d c : Dev nD) (k : Key) (r : ℕ) (hr : 2 ≤ r) : cnt (allO d) c k r = 0 := by
  unfold cnt
  rw [List.countP_eq_zero]
  intro x hx e
  have := all_at d x hx
  have h := (of_decide_eq_true e).2.2
  omega

theorem launch_amt (c : Dev nD) (k : Key) (r : ℕ) :
    launchCredit (Pipeline.owing O₀) 0 (cell c k) r = (∑ d : Dev nD, cnt (allO d) c k r) * amt k := by
  rw [Pipeline.launchCredit_owing, Finset.sum_congr rfl fun d _ => tall_apply (allO d) c k r, Finset.sum_mul]

def keyCred (c : Dev nD) (k : Key) : sProp 𝕄 :=
  cred (tallyOn (cell c k) (launchCredit (Pipeline.owing O₀) 0 (cell c k)))

theorem key_cred (c : Dev nD) (k : Key) (n₀ n₁ : ℕ) (h₀ : ∑ d : Dev nD, cnt (allO d) c k 0 = n₀) (h₁ : ∑ d : Dev nD, cnt (allO d) c k 1 = n₁) :
    keyCred (F := F) c k ⊢ iprop(cred (tallyAt (cell c k) 0 (n₀ * amt k)) ∗ cred (tallyAt (cell c k) 1 (n₁ * amt k))) := by
  have h : launchCredit (Pipeline.owing O₀) 0 (cell c k) = (Finsupp.single 0 (n₀ * amt k) + Finsupp.single 1 (n₁ * amt k) : ℕ →₀ ℕ) := by
    refine Finsupp.ext fun r => ?_
    rw [launch_amt, Finsupp.add_apply]
    rcases r with _ | _ | r
    · rw [h₀, Finsupp.single_eq_same, Finsupp.single_eq_of_ne (by decide), Nat.add_zero]
    · rw [h₁, Finsupp.single_eq_of_ne (by decide), Finsupp.single_eq_same, Nat.zero_add]
    · rw [Finset.sum_eq_zero fun d _ => cnt_late d c k (r + 1 + 1) (by omega), Nat.zero_mul, Finsupp.single_eq_of_ne (by omega), Finsupp.single_eq_of_ne (by omega), Nat.add_zero]
  unfold keyCred
  rw [h, tallyOn_add]
  exact (cred_add _ _).1

def CQ (c : Dev nD) (q : Fin 8) : sProp 𝕄 :=
  iprop(cred (tallyAt (cell c (.rcv q 1)) 0 NS) ∗ cred (tallyAt (cell c (.rcv q 1)) 1 NS) ∗ cred (tallyAt (cell c (.rcv q 0)) 0 NS)
    ∗ cred (tallyAt (cell c (.fre q)) 0 1) ∗ cred (tallyAt (cell c (.fre q)) 1 1))

theorem cnt_bar (c : Dev nD) : ∑ d : Dev nD, cnt (allO d) c .bar 0 = 2 := by revert c; decide +kernel
theorem cnt_rcv1 (c : Dev nD) (q : Fin 8) : ∑ d : Dev nD, cnt (allO d) c (.rcv q 1) 0 = 1 ∧ ∑ d : Dev nD, cnt (allO d) c (.rcv q 1) 1 = 1 := by
  revert c q; decide +kernel
theorem cnt_rcv0 (c : Dev nD) (q : Fin 8) : ∑ d : Dev nD, cnt (allO d) c (.rcv q 0) 0 = 1 := by revert c q; decide +kernel
theorem cnt_fre (c : Dev nD) (q : Fin 8) : ∑ d : Dev nD, cnt (allO d) c (.fre q) 0 = 1 ∧ ∑ d : Dev nD, cnt (allO d) c (.fre q) 1 = 1 := by
  revert c q; decide +kernel

theorem five_cred (c : Dev nD) (q : Fin 8) : five (keyCred (F := F) c) q ⊢ CQ c q := by
  unfold five CQ
  iintro ⟨-, -, H3, H4, H5⟩
  ihave H3 := (key_cred c (.rcv q 0) 1 _ (cnt_rcv0 c q) rfl) $$ H3
  ihave H4 := (key_cred c (.rcv q 1) 1 1 (cnt_rcv1 c q).1 (cnt_rcv1 c q).2) $$ H4
  ihave H5 := (key_cred c (.fre q) 1 1 (cnt_fre c q).1 (cnt_fre c q).2) $$ H5
  simp only [Nat.one_mul]
  icases H3 with ⟨H3, -⟩
  icases H4 with ⟨H4, H4'⟩
  icases H5 with ⟨H5, H5'⟩
  isplitl [H4]; · iexact H4
  isplitl [H4']; · iexact H4'
  isplitl [H3]; · iexact H3
  isplitl [H5]; · iexact H5
  iexact H5'

theorem creds (c : Dev nD) :
    (Pipeline.launchCred O₀ c : sProp 𝕄) ⊢ iprop(cred (tallyAt (cell c .bar) 0 2) ∗ bigSep Finset.univ fun q => CQ c q) := by
  have h : (Pipeline.launchCred O₀ c : sProp 𝕄) ⊢ bigSep Finset.univ (keyCred (F := F) c) := by
    unfold Pipeline.launchCred
    exact (bigSep_subset (Finset.subset_univ (Finset.univ.map ⟨csem, csem_inj⟩))).trans (Entails.of_eq (bigSep_map _))
  iintro H
  ihave H := h $$ H
  ihave H := (bigSep_key_split (keyCred (F := F) c)) $$ H
  icases H with ⟨HB, HQ, -, -⟩
  ihave HB := (key_cred c .bar 2 _ (cnt_bar c) rfl) $$ HB
  icases HB with ⟨HB, -⟩
  ihave HQ := (big_mono (five_cred (F := F) c)) $$ HQ
  isplitl [HB]; · iexact HB
  iexact HQ

/-! ## The staging waits -/

theorem dec_none (s : DmaSem sig) (hs : s.val < 3) : dec (.dma s) = none := by
  classical
  unfold dec
  rw [dif_neg]
  rintro ⟨k, hk⟩
  have h := semNo_csem k
  rw [hk] at h
  change 9 + s.val = keyNo k at h
  cases k <;> dsimp only [keyNo] at h <;> omega

theorem mayWait_stage (c : Dev nD) (s : DmaSem sig) (hs : s.val < 3) (l : List Obl) (h : Above 0 l) :
    (levAts L lv : sProp 𝕄) ⊢ MayWait (c : Thread nD τ) (.dma s) 0 (tall l) := by
  have hz : lv ((c : Thread nD τ), .dma s) 0 = 0 := by
    show (match dec (.dma s) with | some k => klev k 0 | none => 0) = 0
    rw [dec_none s hs]
  refine MayOwe.of_cut (L := L) (lev := lv) 0 ?_ ?_ ?_ ?_
  · intro p hp; rw [Finset.mem_singleton.mp hp, L_tc]; exact (by decide : (0 : ℕ) ∈ ({0, 1} : Finset ℕ))
  · intro g u hg
    obtain ⟨x, hx, rfl, rfl⟩ := tall_pos hg
    rw [L_tc]
    have h2 := (h x hx).1
    revert h2
    generalize x.at' = r
    intro h2
    rcases r with _ | _ | r
    · decide
    · decide
    · omega
  · intro p hp; rw [Finset.mem_singleton.mp hp]; exact hz.le
  · intro g u hg
    obtain ⟨x, hx, rfl, rfl⟩ := tall_pos hg
    rw [lv_cell]; exact (h x hx).2

theorem above_all (c : Dev nD) : Above 0 (allO c) := by unfold Above; revert c; decide +kernel

end Cert.KernelIdeal.Ring
-- ==== Proof.FlatEq.lean ====
module

public import proofs.«01_k».proof.Proof.Flat

/-! The printed body is the sequence of blocks. -/

@[expose] public section

noncomputable section

namespace Cert.KernelIdeal.Ring

open Idealize.ShloMosaic Idealize.SL.Sem Cert.KernelIdeal.Gen

variable {F : FTy → Type} [FloatOps F]

set_option maxRecDepth 65536 in
set_option maxHeartbeats 0 in
theorem body_eq_flat :
    cc0_body (F := F) xin (Memref.isWhole_whole _) wst (Memref.isWhole_whole _) sxst (Memref.isWhole_whole _)
      swst (Memref.isWhole_whole _) res (Memref.isWhole_whole _) comm (Memref.isWhole_whole _)
      xbuf (Memref.isWhole_whole _) obuf (Memref.isWhole_whole _)
      cc0_scratch3 cc0_scratch4 cc0_scratch5 cc0_scratch6 cc0_scratch7 = flat := rfl

end Cert.KernelIdeal.Ring
-- ==== Proof.Dats.lean ====
module

public import proofs.«01_k».proof.Proof.Keys
public import proofs.«01_k».proof.Proof.FlatEq
public import proofs.«01_k».proof.Proof.Gen.KernelIdeal.Points

/-! The body from what the launch deals to what the kernel call hands back. -/

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen

variable {F : FTy → Type} [FloatOps F]

local notation "𝕄" => MT nD τ sig ℕ (Elt F) ℕ UU ℕ

variable (m : (ℓ : Loc nD τ sig) → Buf (Elt F) ℓ)

/-! ## What a device starts from and ends with -/

/-- The three scratch buffers, at any contents. -/
def Scr (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

/-- A device's positions, its tokens and its credits. -/
def Lin (c : Dev nD) : sProp 𝕄 :=
  iprop((bigSep Finset.univ fun k : Key => atPos ER (cell c k) 0 ∅ 0) ∗ PayT c)

def Start (c : Dev nD) : sProp 𝕄 :=
  iprop((∃ K, World m K) ∗ Lin c ∗ (cred (tallyAt (cell c .bar) 0 2) ∗ bigSep Finset.univ fun q => CQ c q)
    ∗ (((c : Thread nD τ).loc main_arg0) ↦{fullShare} (m ((c : Thread nD τ).loc main_arg0)))
    ∗ (((c : Thread nD τ).loc main_v1) ↦{fullShare} (m ((c : Thread nD τ).loc main_v1))))

def Φ₀ (c : Dev nD) : sProp 𝕄 := iprop(Start m c ∗ Scr c)
def Done (c : Dev nD) : sProp 𝕄 :=
  iprop((((c : Thread nD τ).loc main_arg0) ↦{fullShare} (m ((c : Thread nD τ).loc main_arg0)))
    ∗ (((c : Thread nD τ).loc main_v1) ↦{fullShare} (outBuf m c : Buf (Elt F) ((c : Thread nD τ).loc main_v1))))
def Φ₁ (c : Dev nD) : sProp 𝕄 :=
  iprop(Done m c ∗ (bigSep Finset.univ fun k : Key => semVal (cell c k) 0) ∗ Scr c)

/-! ## The body's precondition -/

theorem pre0_of (c : Dev nD) (q : Fin 8) :
    iprop(junk c q 0 ∗ SQ c q ∗ RQ (dst q c) q ∗ FQ (ups q c) q ∗ CQ c q ∗ five (fun k => atPos ER (cell c k) 0 ∅ 0) q
      ∗ (∃ Y, ocolH c q Y) ∗ (∃ Y, rcolH c q Y) ∗ dutyTok ER (cell c .out) 0 q) ⊢ (Pre0 c q : sProp 𝕄) := by
  unfold SQ RQ FQ CQ five Pre0 R0 R1 R2
  iintro ⟨HJ, ⟨S00, S01, S10⟩, ⟨R00, R10, R11⟩, ⟨F0, F1⟩, ⟨C10, C11, C00, CF0, CF1⟩, ⟨PS0, PS1, PR0, PR1, PF⟩, HO, HR, HT⟩
  isplitl [HJ]; · iexact HJ
  isplitl [S00]; · iexact S00
  isplitl [R10]; · iexact R10
  isplitl [C10]; · iexact C10
  isplitl [PR1]; · iexact PR1
  isplitl [PS0]; · iexact PS0
  isplitl [F0]; · iexact F0
  isplitl [CF0]; · iexact CF0
  isplitl [PF]; · iexact PF
  isplitl [S10]; · iexact S10
  isplitl [R00]; · iexact R00
  isplitl [C00]; · iexact C00
  isplitl [PR0]; · iexact PR0
  isplitl [PS1]; · iexact PS1
  isplitl [F1]; · iexact F1
  isplitl [CF1]; · iexact CF1
  isplitl [S01]; · iexact S01
  isplitl [R11]; · iexact R11
  isplitl [C11]; · iexact C11
  isplitl [HO]; · iexact HO
  isplitl [HR]; · iexact HR
  iexact HT

theorem comm_pairs (c : Dev nD) :
    (bigSep Finset.univ fun t : Fin 8 × Fin 2 => (junk c t.1 t.2 : sProp 𝕄))
      = iprop((bigSep Finset.univ fun q : Fin 8 => junk c q 0) ∗ (bigSep Finset.univ fun q : Fin 8 => junk c q 1)) := by
  rw [bigSep_univ_prod]
  simp only [bigSep_two]
  rw [bigSep_sep']

theorem body_in (c : Dev nD) :
    iprop(Lin c ∗ (cred (tallyAt (cell c .bar) 0 2) ∗ bigSep Finset.univ fun q => CQ c q)
      ∗ (((c : Thread nD τ).loc main_arg0) ↦{fullShare} (m ((c : Thread nD τ).loc main_arg0)))
      ∗ (((c : Thread nD τ).loc main_v1) ↦{fullShare} (m ((c : Thread nD τ).loc main_v1))) ∗ Scr c ∗ ow c (allO c) ∗ Stg m c)
      ⊢ (BodyIn m c : sProp 𝕄) := by
  unfold Lin PayT Scr BodyIn BarIn
  rw [X4_eq, X4_eq, S8_eq, S8_eq]
  iintro ⟨⟨HP, TB0, TB1, HS, HR, HF, HX, HT⟩, ⟨HCB, HC⟩, Ha, Hv, ⟨Hs0, Hs1, Hs2⟩, HO, HG⟩
  ihave HP := (bigSep_key_split fun k : Key => (atPos ER (cell c k) 0 ∅ 0 : sProp 𝕄)) $$ HP
  icases HP with ⟨PB, PQ, PX, PO⟩
  ihave Hs0 := ((comm_split c).trans (Entails.of_eq (comm_pairs c))) $$ Hs0
  icases Hs0 with ⟨HJ0, HJ1⟩
  ihave Hs1 := (xbuf_split c) $$ Hs1
  ihave Hs2 := (obuf_split c) $$ Hs2
  ihave Hv := (res_split c) $$ [Hv]
  · iexists _; iexact Hv
  ihave Ha := (Entails.of_eq (src_eq m c)) $$ Ha
  isplitl [Ha Hs1 HX]
  · iapply (show iprop((bigSep Finset.univ fun i : Fin 4 => srcH m c i) ∗ (bigSep Finset.univ fun i : Fin 4 => iprop(∃ Y, xH c i Y))
        ∗ (bigSep Finset.univ fun i : Fin 4 => dutyTok ER (cell c (.xin i)) 0 0)) ⊢ (bigSep Finset.univ (XIn m c) : sProp 𝕄) from by
      rw [← bigSep_sep', ← bigSep_sep']; exact Entails.of_eq rfl)
    isplitl [Ha]; · iexact Ha
    isplitl [Hs1]; · iexact Hs1
    iexact HX
  isplitl [PX]; · iexact PX
  isplitl [HO]; · iexact HO
  isplitl [TB0 TB1 HCB PB]
  · isplitl [TB0]; · iexact TB0
    isplitl [TB1]; · iexact TB1
    isplitl [HCB]; · iexact HCB
    iexact PB
  isplitl [HJ1]; · iexact HJ1
  isplitl [HG]; · iexact HG
  isplitr [PO]
  · iapply (show iprop((bigSep Finset.univ fun q : Fin 8 => junk c q 0) ∗ (bigSep Finset.univ fun q => SQ c q)
        ∗ (bigSep Finset.univ fun q => RQ (dst q c) q) ∗ (bigSep Finset.univ fun q => FQ (ups q c) q) ∗ (bigSep Finset.univ fun q => CQ c q)
        ∗ (bigSep Finset.univ (five fun k => atPos ER (cell c k) 0 ∅ 0)) ∗ (bigSep Finset.univ fun q : Fin 8 => iprop(∃ Y, ocolH c q Y))
        ∗ (bigSep Finset.univ fun q : Fin 8 => iprop(∃ Y, rcolH c q Y)) ∗ (bigSep Finset.univ fun q : Fin 8 => dutyTok ER (cell c .out) 0 q))
        ⊢ (bigSep Finset.univ (Pre0 c) : sProp 𝕄) from by
      simp only [← bigSep_sep']
      exact big_mono (pre0_of c))
    isplitl [HJ0]; · iexact HJ0
    isplitl [HS]; · iexact HS
    isplitl [HR]; · iexact HR
    isplitl [HF]; · iexact HF
    isplitl [HC]; · iexact HC
    isplitl [PQ]; · iexact PQ
    isplitl [Hs2]; · iexact Hs2
    isplitl [Hv]; · iexact Hv
    iexact HT
  iexact PO

/-! ## Its end -/

theorem close_one (K : DK → ℕ) (c : Dev nD) (k : Key) :
    iprop(World m K ∗ atPos ER (cell c k) (rnd k) ∅ 0) ⊢ (|={Set.univ}=> semVal (cell c k) 0 : sProp 𝕄) := by
  iintro ⟨#HW, HP⟩
  ihave #HI := (World_inv m K c k) $$ HW
  imod (Rounds.cell_close ER (Rd m) (Set.mem_univ (K (c, k))) (fun h => h) (R := rnd k) (duties_late m c k)) $$ [HP] with HZ
  · isplitr; · iexact HI
    iexact HP
  imodintro
  iexact HZ

theorem with_persistent {I : Type} [DecidableEq I] {S : Finset I} {R : sProp 𝕄} [BI.Persistent R] {Φ Ψ : I → sProp 𝕄}
    (h : ∀ i, iprop(R ∗ Φ i) ⊢ Ψ i) : iprop(R ∗ bigSep S Φ) ⊢ bigSep S Ψ :=
  (sep_mono_left (BI.bigSep_of_persistent S R)).trans (by rw [← bigSep_sep']; exact bigSep_mono fun i _ => h i)

theorem close_all (K : DK → ℕ) (c : Dev nD) :
    iprop(World m K ∗ bigSep Finset.univ fun k : Key => atPos ER (cell c k) (rnd k) ∅ 0)
      ⊢ (|={Set.univ}=> bigSep Finset.univ fun k : Key => semVal (cell c k) 0 : sProp 𝕄) :=
  (with_persistent fun k => close_one m K c k).trans (bigSep_fupd _ _)

theorem five_end (c : Dev nD) (q : Fin 8) :
    Post0 c q ⊢ iprop(junk c q 0 ∗ junk c q 1 ∗ (five (fun k => atPos ER (cell c k) (rnd k) ∅ 0) q : sProp 𝕄)) := by
  unfold Post0 five
  iintro ⟨⟨H0, H1⟩, Hr1, Hs0, Hr0, Hs1, Hf⟩
  isplitl [H0]; · iexact H0
  isplitl [H1]; · iexact H1
  isplitl [Hs0]; · iexact Hs0
  isplitl [Hs1]; · iexact Hs1
  isplitl [Hr0]; · iexact Hr0
  isplitl [Hr1]; · iexact Hr1
  iexact Hf

theorem x_any (c : Dev nD) (i : Fin 4) : xH c i (xval m c i) ⊢ (iprop(∃ Y, xH c i Y) : sProp 𝕄) := by
  iintro H; iexists _; iexact H
theorem o_any (c : Dev nD) (q : Fin 8) : ocolH c q (outv m q c) ⊢ (iprop(∃ Y, ocolH c q Y) : sProp 𝕄) := by
  iintro H; iexists _; iexact H

theorem body_out (K : DK → ℕ) (c : Dev nD) :
    iprop(World m K ∗ BodyOut m c) ⊢ (|={Set.univ}=> iprop(Φ₁ m c ∗ ow c [] ∗ Stg m c) : sProp 𝕄) := by
  unfold BodyOut Φ₁ Done Scr
  rw [X4_eq, S8_eq]
  iintro ⟨#HW, HX, HO, PB, HG, HQ, PO, HP⟩
  ihave HX := (show (bigSep Finset.univ (XOut m c) : sProp 𝕄) ⊢ iprop((bigSep Finset.univ fun i : Fin 4 => xH c i (xval m c i))
      ∗ (bigSep Finset.univ fun i : Fin 4 => srcH m c i) ∗ (bigSep Finset.univ fun i : Fin 4 => atPos ER (cell c (.xin i)) 1 ∅ 0)) from by
    rw [← bigSep_sep', ← bigSep_sep']; exact Entails.of_eq rfl) $$ HX
  icases HX with ⟨Hx, Ha, PX⟩
  ihave HQ := (show (bigSep Finset.univ (Post0 c) : sProp 𝕄) ⊢ iprop((bigSep Finset.univ fun q : Fin 8 => junk c q 0)
      ∗ (bigSep Finset.univ fun q : Fin 8 => junk c q 1) ∗ (bigSep Finset.univ (five fun k => atPos ER (cell c k) (rnd k) ∅ 0))) from by
    rw [← bigSep_sep', ← bigSep_sep']; exact big_mono (five_end c)) $$ HQ
  icases HQ with ⟨HJ0, HJ1, PQ⟩
  ihave HP := (show (bigSep Finset.univ (fun q => pay m c .out 0 q) : sProp 𝕄) ⊢ iprop((bigSep Finset.univ fun q : Fin 8 => rcolH c q (outv m q c))
      ∗ (bigSep Finset.univ fun q : Fin 8 => ocolH c q (outv m q c))) from by
    rw [← bigSep_sep']; exact Entails.of_eq rfl) $$ HP
  icases HP with ⟨Hv, Ho⟩
  imod (close_all m K c) $$ [PB PQ PX PO] with HZ
  · isplitr; · iexact HW
    iapply (bigSep_key_join fun k : Key => (atPos ER (cell c k) (rnd k) ∅ 0 : sProp 𝕄))
    isplitl [PB]; · iexact PB
    isplitl [PQ]; · iexact PQ
    isplitl [PX]; · iexact PX
    iexact PO
  imodintro
  isplitr [HO HG]
  · isplitl [Ha Hv]
    · isplitl [Ha]
      · iapply (Entails.of_eq (src_eq m c).symm); iexact Ha
      iapply (res_join m c); iexact Hv
    isplitl [HZ]; · iexact HZ
    isplitl [HJ0 HJ1]
    · iapply ((Entails.of_eq (comm_pairs c).symm).trans (comm_join c))
      isplitl [HJ0]; · iexact HJ0
      iexact HJ1
    isplitl [Hx]
    · iapply ((big_mono (x_any m c)).trans (xbuf_join c)); iexact Hx
    iapply ((big_mono (o_any m c)).trans (obuf_join c)); iexact Ho
  isplitl [HO]; · iexact HO
  iexact HG

/-! ## The pipeline's proof data -/

variable (ρ : Dev nD → PrngReg)

def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => wstg m c
    | ⟨1, _⟩ => sxstg m c
    | ⟨2, _⟩ => swstg m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem owns_whole_eq (c : Dev nD) (b : Ref sig .tc) (X : b.ty.Contents (Elt F)) :
    (owns (Ix := ℕ) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop(Φ₀ m c ∗ (dats m ρ 0 c).owesAt 0 t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))
def bodyPost (c : Dev nD) : sProp 𝕄 :=
  iprop(Φ₁ m c ∗ (dats m ρ 0 c).owesAt 0 t0_0.succ ∗ stg c cc0_stg0_0 (wstg m c) ∗ stg c cc0_stg1_0 (sxstg m c) ∗ stg c cc0_stg2_0 (swstg m c))

theorem sound_body (c : Dev nD) : bodyPre m ρ c ⊢ Wp c (flat (F := F)) fun _ => bodyPost m ρ c := by
  unfold bodyPre Φ₀ Start Dat.owesAt Pipeline.owesWithin
  rw [show (dats m ρ 0 c).owed t0_0.castSucc = tall (allO c) from rfl]
  iintro ⟨⟨⟨⟨%K, #HW⟩, HL, HC, Ha, Hv⟩, Hs⟩, ⟨%W, %hW, HO⟩, ⟨%d0, %f0, %h0, H0⟩, ⟨%d1, %f1, %h1, H1⟩, ⟨%d2, %f2, %h2, H2⟩⟩
  have e0 : f0 = wstg m c := by rw [h0]; unfold Dat.before; rw [if_pos (fetch0_0 t0_0)]; rfl
  have e1 : f1 = sxstg m c := by rw [h1]; unfold Dat.before; rw [if_pos (fetch0_1 t0_0)]; rfl
  have e2 : f2 = swstg m c := by rw [h2]; unfold Dat.before; rw [if_pos (fetch0_2 t0_0)]; rfl
  subst e0 e1 e2
  unfold Wp
  iapply (wp_fupd _ _)
  iapply (flat_run m K c fun _ => iprop(|={Set.univ}=> bodyPost m ρ c)) $$ HW [-]
  · iapply (body_in m c)
    isplitl [HL]; · iexact HL
    isplitl [HC]; · iexact HC
    isplitl [Ha]; · iexact Ha
    isplitl [Hv]; · iexact Hv
    isplitl [Hs]; · iexact Hs
    isplitl [HO]
    · unfold ow; iexists W; iexact HO
    unfold Stg
    isplitl [H0]; · iexact H0
    isplitl [H1]; · iexact H1
    iexact H2
  iintro HB
  imod (body_out m K c) $$ [HB] with ⟨HF, HO, HG⟩
  · isplitr; · iexact HW
    iexact HB
  imodintro
  unfold bodyPost Dat.owesAt Pipeline.owesWithin ow Stg
  rw [show (dats m ρ 0 c).owed t0_0.succ = 0 from rfl]
  icases HO with ⟨%W', HO⟩
  icases HG with ⟨H0, H1, H2⟩
  isplitl [HF]; · iexact HF
  isplitl [HO]
  · iexists W'
    isplitr; · ipureintro; exact fun _ _ => Or.inl trivial
    iexact HO
  isplitl [H0]
  · iexists _; isplitr; · (ipureintro; rfl)
    iexact H0
  isplitl [H1]
  · iexists _; isplitr; · (ipureintro; rfl)
    iexact H1
  iexists _; isplitr; · (ipureintro; rfl)
  iexact H2

set_option maxRecDepth 65536 in
theorem body_obligation (c : Dev nD) : BodyObligation (dats (F := F) m ρ 0 c) (defs₀ (F := F)) 𝒱₀ (0 : ℕ) Set.univ := fun t => by
  rw [fin_N0 t]
  rw [show (bigSep Finset.univ : (Fin cfg0.W → sProp 𝕄) → sProp 𝕄) = fun Φ => iprop(Φ (0 : Fin 3) ∗ Φ (1 : Fin 3) ∗ Φ (2 : Fin 3)) from funext bigSep_W0]
  simp only [owns_whole_eq]
  show bodyPre m ρ c ⊢ Wp c (cc0_body (F := F) xin (Memref.isWhole_whole _) wst (Memref.isWhole_whole _) sxst (Memref.isWhole_whole _)
      swst (Memref.isWhole_whole _) res (Memref.isWhole_whole _) comm (Memref.isWhole_whole _)
      xbuf (Memref.isWhole_whole _) obuf (Memref.isWhole_whole _)
      cc0_scratch3 cc0_scratch4 cc0_scratch5 cc0_scratch6 cc0_scratch7) (fun _ => bodyPost m ρ c)
  rw [body_eq_flat]
  exact sound_body m ρ c

end Cert.KernelIdeal.Ring
-- ==== Proof.Launch.lean ====
module

public import proofs.«01_k».proof.Proof.Dats
public import proofs.«01_k».proof.Proof.Gen.KernelIdeal.Launch
public import Idealize.ShloMosaic.Lib.Quiescent
public import Idealize.ShloMosaic.Lib.Pipeline.CollectiveSegs

/-! The launch: what each device is dealt, and the run of the whole program. -/

@[expose] public section

noncomputable section

namespace Cert.KernelIdeal.Ring

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal.Gen

variable {F : FTy → Type} [FloatOps F]

local notation "𝕄" => MT nD τ sig ℕ (Elt F) ℕ UU ℕ

variable (m : (ℓ : Loc nD τ sig) → Buf (Elt F) ℓ) (ρ : Dev nD → PrngReg)

/-! ## The kernel's own semaphores -/

abbrev OK : Type := (Fin 8 × Fin 2) ⊕ (Fin 8 × Fin 2) ⊕ Fin 8 ⊕ Fin 4 ⊕ Unit
def osem (k : OK) : SemLoc sig := csem (keyEquiv (.inr k))

theorem osem_ne_bar (k : OK) : keyEquiv (.inr k) ≠ .bar := by
  rcases k with _ | _ | _ | _ | _ <;> exact fun h => by cases h

theorem ownSemFacts : Pipeline.OwnSemFacts cfg0.spec osem where
  isScoped := by decide +kernel
  inj := fun k k' h => by
    have := keyEquiv.injective (csem_inj h)
    exact Sum.inr.inj this
  disj := fun k w s h => by
    have h1 : dec (osem k) = some (keyEquiv (.inr k)) := dec_csem _
    rw [h, dec_none _ ((by decide : ∀ (w : Fin cfg0.W) (s : Fin (cfg0.spec w).nbuf), ((cfg0.spec w).sem s).val < 3) w s)] at h1
    exact nomatch h1

theorem ownSems0_eq (c : Dev nD) : (Pipeline.ownSems0 (Ix := ℕ) (Name := ℕ) (U := UU) (Lvl := ℕ) (Val := Elt F) (τ := τ) osem c : sProp 𝕄)
    = bigSep Finset.univ fun k : OK => semVal (cell c (keyEquiv (.inr k))) 0 := rfl
theorem unscopedSems0_eq (c : Dev nD) : (unscopedSems0 c : sProp 𝕄) = semVal (cell c .bar) 0 := by
  unfold unscopedSems0; rw [bigSep_eq_bigSepL_of_eq [SemLoc.reg barS] (by decide +kernel) (by decide +kernel)]; rfl

theorem sems0_eq (c : Dev nD) :
    (bigSep Finset.univ fun k : Key => (semVal (cell c k) 0 : sProp 𝕄))
      = iprop(unscopedSems0 c ∗ Pipeline.ownSems0 (Ix := ℕ) (Name := ℕ) (U := UU) (Lvl := ℕ) (Val := Elt F) (τ := τ) osem c) := by
  rw [ownSems0_eq, unscopedSems0_eq, bigSep_univ_equiv keyEquiv, BI.bigSep_univ_sum, bigSep_one]
  rfl

/-! ## The launch's ghost state -/

def kcell (x : DK) : GSem nD τ sig := cell x.1 x.2
theorem kcell_inj : Function.Injective kcell := fun x y h => Prod.ext (cell_inj h).1 (cell_inj h).2
def ringCells : Finset (GSem nD τ sig) := Finset.univ.map ⟨kcell, kcell_inj⟩

abbrev TokIx : Type := (x : DK) × (_ : Fin 2) × Fin 8
def tokOf (t : TokIx) : GSem nD τ sig × ℕ × Fin 8 := (kcell t.1, t.2.1.val, t.2.2)
theorem tokOf_inj : Function.Injective tokOf := by
  rintro ⟨x, r, d⟩ ⟨x', r', d'⟩ h
  have h1 : x = x' := kcell_inj (congrArg Prod.fst h)
  have h2 : r = r' := Fin.ext (congrArg (fun y : GSem nD τ sig × ℕ × Fin 8 => y.2.1) h)
  have h3 : d = d' := congrArg (fun y : GSem nD τ sig × ℕ × Fin 8 => y.2.2) h
  subst h1 h2 h3; rfl
def ringToks : Finset (GSem nD τ sig × ℕ × Fin 8) :=
  ((Finset.univ : Finset DK).sigma fun x => (Finset.univ : Finset (Fin 2)).sigma fun r => dut x.2 r.val).map ⟨tokOf, tokOf_inj⟩

def u₀ : UU := (initOf (Pipeline.cells cfgs cellOf_inj) (Pipeline.launchToks cfgs cellOf_inj), initOf ringCells ringToks)

def G (c : Dev nD) : sProp 𝕄 :=
  iprop((bigSep Finset.univ fun k : Key => roundState ER (Rd m) (cell c k) 0)
    ∗ (bigSep Finset.univ fun k : Key => atPos ER (cell c k) 0 ∅ 0) ∗ (bigSep Finset.univ fun k : Key => reached ER (cell c k) 0)
    ∗ bigSep Finset.univ (tokC (F := F) c))

/-- What the run knows of every semaphore, but for the order of waiting. -/
def Rec (K : DK → ℕ) : sProp 𝕄 :=
  iprop((bigSep Finset.univ fun x : DK => cellInv ER (Rd m) (K x) (cell x.1 x.2))
    ∗ (bigSep Finset.univ fun x : DK => reached ER (cell x.1 x.2) 0))
instance (K : DK → ℕ) : BI.Persistent (Rec (F := F) m K) := by unfold Rec; infer_instance

def G' (c : Dev nD) : sProp 𝕄 := iprop((∃ K, Rec m K) ∗ Lin c)

theorem cells_dev (Φ : GSem nD τ sig → sProp 𝕄) :
    bigSep ringCells Φ = bigSep Finset.univ fun c : Dev nD => bigSep Finset.univ fun k : Key => Φ (cell c k) := by
  unfold ringCells; rw [bigSep_map, bigSep_univ_prod]; rfl
theorem toks_dev :
    bigSep ringToks (fun x => (dutyTok ER x.1 x.2.1 x.2.2 : sProp 𝕄)) = bigSep Finset.univ fun c : Dev nD => bigSep Finset.univ (tokC (F := F) c) := by
  unfold ringToks
  rw [bigSep_map, Pipeline.bigSep_sigma, bigSep_univ_prod]
  refine bigSep_congr fun c _ => bigSep_congr fun k _ => ?_
  rw [Pipeline.bigSep_sigma]
  rfl

theorem fund_ring : BI.own (ER (initOf ringCells ringToks)) ⊢ (|==> bigSep Finset.univ (G m) : sProp 𝕄) := by
  iintro HX
  imod (Rounds.fund ER (Rd m) ringCells ringToks) $$ HX with ⟨Hst, Hr, Hat, Htok⟩
  imodintro
  ihave Hst := (Entails.of_eq (cells_dev fun g => roundState ER (Rd m) g 0)) $$ Hst
  ihave Hat := (Entails.of_eq (cells_dev fun g => atPos ER g 0 ∅ 0)) $$ Hat
  ihave Hr := (Entails.of_eq (cells_dev fun g => reached ER g 0)) $$ Hr
  ihave Htok := (Entails.of_eq toks_dev) $$ Htok
  unfold G; simp only [bigSep_sep']
  isplitl [Hst]; · iexact Hst
  isplitl [Hat]; · iexact Hat
  isplitl [Hr]; · iexact Hr
  iexact Htok

theorem core_alloc (c : Dev nD) :
    iprop(Pipeline.ownSems0 (Ix := ℕ) (Name := ℕ) (U := UU) (Lvl := ℕ) (Val := Elt F) (τ := τ) osem c ∗ unscopedSems0 c ∗ G m c)
      ⊢ |={Set.univ}=> iprop((bigSep Finset.univ fun k : Key => iprop(∃ κ : ℕ, cellInv ER (Rd m) κ (cell c k)))
          ∗ (bigSep Finset.univ fun k : Key => atPos ER (cell c k) 0 ∅ 0) ∗ (bigSep Finset.univ fun k : Key => reached ER (cell c k) 0)
          ∗ bigSep Finset.univ (tokC (F := F) c)) := by
  unfold G
  iintro ⟨Hos, Hus, Hst, Hat, Hr, Htok⟩
  ihave Hv := (Entails.of_eq (sems0_eq (F := F) c).symm) $$ [Hos Hus]
  · isplitl [Hus]; · iexact Hus
    iexact Hos
  imod (show iprop((bigSep Finset.univ fun k : Key => semVal (cell c k) 0) ∗ bigSep Finset.univ fun k : Key => roundState ER (Rd m) (cell c k) 0)
      ⊢ (|={Set.univ}=> bigSep Finset.univ fun k : Key => iprop(∃ κ : ℕ, cellInv ER (Rd m) κ (cell c k)) : sProp 𝕄) from by
        rw [← bigSep_sep']
        exact (bigSep_mono fun k _ => (Rounds.body_intro ER (Rd m) (cell c k)).trans inv_alloc).trans (bigSep_fupd _ _)) $$ [Hv Hst] with Hinv
  · isplitl [Hv]; · iexact Hv
    iexact Hst
  imodintro
  isplitl [Hinv]; · iexact Hinv
  isplitl [Hat]; · iexact Hat
  isplitl [Hr]; · iexact Hr
  iexact Htok

theorem deal_one (K : DK → ℕ) (c : Dev nD) : iprop(Rec m K ∗ Lin c) ⊢ G' m c := by
  unfold G'
  iintro ⟨#HR, HL⟩
  isplitr; · iexists K; iexact HR
  iexact HL

theorem regroup :
    (bigSep Finset.univ fun c : Dev nD => iprop((bigSep Finset.univ fun k : Key => iprop(∃ κ : ℕ, cellInv ER (Rd m) κ (cell c k)))
          ∗ (bigSep Finset.univ fun k : Key => atPos ER (cell c k) 0 ∅ 0) ∗ (bigSep Finset.univ fun k : Key => reached ER (cell c k) 0)
          ∗ bigSep Finset.univ (tokC (F := F) c)) : sProp 𝕄)
      ⊢ bigSep Finset.univ (G' m) := by
  rw [bigSep_sep', bigSep_sep', bigSep_sep', ← bigSep_univ_prod (fun x : DK => iprop(∃ κ : ℕ, cellInv ER (Rd m) κ (cell x.1 x.2))),
    ← bigSep_univ_prod (fun x : DK => (reached ER (cell x.1 x.2) 0 : sProp 𝕄))]
  iintro ⟨HI, Hat, #HR, Htok⟩
  ihave HK := (BI.bigSep_exists_pi Finset.univ (fun (x : DK) (κ : ℕ) => (cellInv ER (Rd m) κ (cell x.1 x.2) : sProp 𝕄))) $$ HI
  icases HK with ⟨%K, #HI⟩
  ihave Htk := ((big_mono (own_of (F := F))).trans (toks_dealt (F := F))) $$ Htok
  iapply (with_persistent (R := Rec m K) (deal_one m K))
  isplitr
  · unfold Rec; isplitl; · iexact HI
    iexact HR
  · iapply (show iprop((bigSep Finset.univ fun c : Dev nD => bigSep Finset.univ fun k : Key => atPos ER (cell c k) 0 ∅ 0)
        ∗ bigSep Finset.univ fun c : Dev nD => PayT c) ⊢ (bigSep Finset.univ fun c : Dev nD => Lin c : sProp 𝕄) from by
      unfold Lin; rw [← bigSep_sep'])
    isplitl [Hat]; · iexact Hat
    iexact Htk

theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The theorem's side conditions -/

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(Start m c ∗ emp) := by
  rw [Pipeline.unscopedRestP_none, show (Pipeline.unscopedRest (Ix := ℕ) (Name := ℕ) (U := UU) (Lvl := ℕ) cfg0.spec c (fun b => m ((c : Thread nD τ).loc b)) : sProp 𝕄)
    = _ from unscopedRest0_eq c _]
  unfold G'
  iintro ⟨⟨Ha, Hv⟩, #Hlev, Hcr, -, ⟨⟨%K, #HR⟩, HL⟩⟩
  ihave Hc := (creds (F := F) c) $$ Hcr
  imodintro
  unfold Start
  isplitl
  · isplitr
    · iexists K
      unfold World Rec
      icases HR with ⟨#H1, #H2⟩
      isplitr; · iexact H1
      isplitr; · iexact H2
      iexact Hlev
    isplitl [HL]; · iexact HL
    isplitl [Hc]; · iexact Hc
    isplitl [Ha]; · iexact Ha
    iexact Hv
  · iempintro

theorem phi0_intro (c : Dev nD) :
    iprop(Start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, show (Pipeline.scopedRest (Ix := ℕ) (Name := ℕ) (U := UU) (Lvl := ℕ) (Val := Elt F) cfg0.spec c : sProp 𝕄) = Scr c from scopedRest0_eq c]
  unfold Φ₀
  iintro ⟨Hs, -, Hr⟩
  isplitl [Hs]; · iexact Hs
  iexact Hr

theorem phi1_exit (c : Dev nD) :
    (dats m ρ 0 c).Φ (Fin.last cfg0.N) ⊢ iprop((Done m c ∗ unscopedSems0 c) ∗ Pipeline.ownSems0 osem c ∗ Pipeline.scopedRest cfg0.spec c) := by
  rw [show (dats m ρ 0 c).Φ (Fin.last cfg0.N) = Φ₁ m c from rfl, show (Pipeline.scopedRest (Ix := ℕ) (Name := ℕ) (U := UU) (Lvl := ℕ) (Val := Elt F) cfg0.spec c : sProp 𝕄) = Scr c from scopedRest0_eq c]
  unfold Φ₁
  rw [sems0_eq]
  iintro ⟨HD, ⟨HB, HZ⟩, HS⟩
  isplitl [HD HB]
  · isplitl [HD]; · iexact HD
    iexact HB
  isplitl [HZ]; · iexact HZ
  iexact HS

theorem waits (c : Dev nD) : (levAts L lv : sProp 𝕄) ⊢ Pipeline.cellsWaits cfgs (dats m ρ) (0 : ℕ) 0 c :=
  Pipeline.cellsWaits_intro cfgs (dats m ρ) (0 : ℕ) 0 c fun w s t => by
    have hs : ((cfgs 0).win w).sem s = ((cfgs 0).win w).sem s := rfl
    rcases t with ⟨_ | _, ht⟩
    · exact mayWait_stage c _ (by revert w s; decide) (allO c) (above_all c)
    · exact mayWait_stage c _ (by revert w s; decide) [] (Above_nil 0)

/-! ## The run -/

/-- What the run ends with: on every device the operands unchanged, the result computed. -/
def QC (r : PUnit × MemSt nD τ sig (Elt F)) : Prop :=
  (∀ c : Dev nD, (∀ w : Fin cfg0.W, r.2.mem ((cfg0.win w).arr.view.loc (c : Thread nD τ)) = m ((cfg0.win w).arr.view.loc (c : Thread nD τ)))
    ∧ r.2.mem ((c : Thread nD τ).loc main_arg0) = m ((c : Thread nD τ).loc main_arg0)
    ∧ r.2.mem ((c : Thread nD τ).loc main_v1) = outBuf m c) ∧ r.2.sem = fun _ => 0

theorem arr_end (c : Dev nD) (w : Fin cfg0.W) : (dats m ρ 0 c).arrAt w cfg0.N = m ((cfg0.win w).arr.view.loc (c : Thread nD τ)) :=
  (dats m ρ 0 c).arrAt_in w (by revert w; decide) _

theorem read_done (c : Dev nD) (s' : Phys nD τ sig (Elt F)) :
    iprop(Done m c ∗ SI s') ⊢ (iprop(⌜s'.mem.mem ((c : Thread nD τ).loc main_arg0) = m ((c : Thread nD τ).loc main_arg0)
      ∧ s'.mem.mem ((c : Thread nD τ).loc main_v1) = outBuf m c⌝) : sProp 𝕄) := by
  unfold Done
  iintro ⟨⟨H0, H1⟩, HS⟩
  icombine HS H0 gives %h0
  icombine HS H1 gives %h1
  ipureintro
  exact ⟨Buf.eq_of_forall_mem_univ h0, Buf.eq_of_forall_mem_univ h1⟩

theorem read_end (c : Dev nD) (s' : Phys nD τ sig (Elt F)) :
    iprop((Done m c ∗ unscopedSems0 c) ∗ emp ∗ SI s')
      ⊢ |={Set.univ}=> iprop(⌜(s'.mem.mem ((c : Thread nD τ).loc main_arg0) = m ((c : Thread nD τ).loc main_arg0)
      ∧ s'.mem.mem ((c : Thread nD τ).loc main_v1) = outBuf m c) ∧ ∀ sm : SemLoc sig, sm.isScoped .tc = false → s'.mem.sem ((c.tc : Thread nD τ), sm) = 0⌝
        ∗ (SI s' : sProp 𝕄)) := by
  iintro ⟨⟨HD, HU⟩, -, HS⟩
  imod (Pipeline.unscopedSems0_read (X := unscopedSems0 c) (c := c) fupd_intro s') $$ [HU HS] with ⟨%hu, HS⟩
  · isplitl [HU]; · iexact HU
    iexact HS
  ihave %hd := (read_done m c s') $$ [HD HS]
  · isplitl [HD]; · iexact HD
    iexact HS
  imodintro
  isplitr; · ipureintro; exact ⟨hd, hu⟩
  iexact HS

set_option maxRecDepth 65536 in
theorem run_main : θ_run (defs (F := F)) (onTc (τ := τ) (main (F := F))) (s₀ m ρ) (QC m) :=
  Pipeline.θ_run_region_owing_glob_pf (fun p => (cfgs p).toPCfg) (fun p => (cfgs p).toPCfg_adm) (dats m ρ) (0 : ℕ) cellOf_inj (0 : Fin 1)
    winFacts0.to₀ ownSemFacts (Pipeline.PreFacts.none _) EP defs₀ 𝒱₀ m ρ main
    (hmain := fun _ => rfl)
    (hbody := fun c => body_obligation m ρ c) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := Start m) (Y := fun c => iprop(Done m c ∗ unscopedSems0 c)) (Z := fun _ => iprop(emp))
    (hX := start_intro m ρ) (hin := phi0_intro m ρ) (hout := phi1_exit m ρ)
    (QY := fun c s => (s.mem ((c : Thread nD τ).loc main_arg0) = m ((c : Thread nD τ).loc main_arg0)
      ∧ s.mem ((c : Thread nD τ).loc main_v1) = outBuf m c) ∧ ∀ sm : SemLoc sig, sm.isScoped .tc = false → s.sem ((c.tc : Thread nD τ), sm) = 0)
    (hY := read_end m)
    (hQ := fun _ h hs => ⟨fun c => ⟨fun w => ((h c).1 w).trans (arr_end m ρ c w), (h c).2.2.1.1, (h c).2.2.1.2⟩, sem_eq_zero hs fun c => (h c).2.2.2⟩)

end Cert.KernelIdeal.Ring
-- ==== Proof.Frames.lean ====
module

public import proofs.«01_k».proof.Defs
public import proofs.«01_k».proof.Proof.Launch
public import proofs.«01_k».proof.Proof.Gen.Kernel

/-! What every run of the kernel leaves behind, for both printed programs. -/

@[expose] public section

noncomputable section

open Idealize.ShloMosaic Idealize.ShloMosaic.TcCoe Idealize.SL.Sem

namespace Cert.Proof.Frames

variable {F : FTy → Type} [FloatOps F]

/-- The run ends, the operands unchanged and every semaphore back at zero. -/
theorem quiet (m : (ℓ : Loc Cert.KernelIdeal.nD Cert.KernelIdeal.τ Cert.KernelIdeal.sig) → Buf (Elt F) ℓ) (g : Dev Cert.KernelIdeal.nD → PrngReg) :
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0) :=
  (θ_run Cert.KernelIdeal.defs _ _).mono (fun _ h => ⟨fun c => ⟨(h.1 c).2.1, (h.1 c).1 0, (h.1 c).1 1, (h.1 c).1 2⟩, h.2⟩)
    (Cert.KernelIdeal.Ring.run_main (F := F) m g)

theorem kernelIdeal : Cert.quiescent_KernelIdeal := fun m g _ => quiet (F := Ideal) m g

set_option maxRecDepth 65536 in
set_option maxHeartbeats 2000000 in
/-- The two printed programs have one body. -/
theorem body_eq : Cert.Kernel.cc0_body (F := F) = Cert.KernelIdeal.cc0_body (F := F) := rfl

set_option maxRecDepth 65536 in
theorem table_eq : Cert.Kernel.defs₀ (F := F) = Cert.KernelIdeal.defs₀ (F := F) := by
  funext p l a
  cases p with
  | tc =>
    match l, a with
    | ⟨0, _⟩, (t, s) =>
      show Cert.Kernel.cc0_body (F := F) _ _ _ _ _ _ _ _ _ _ _ _ _ _ _ _ _ _ _ _ _ = _
      rw [body_eq]; rfl
  | scScalar _ => rfl
  | scVector _ _ => rfl

theorem defs_eq : Cert.Kernel.defs (F := F) = Cert.KernelIdeal.defs (F := F) :=
  congrArg (Pipeline.defs Cert.KernelIdeal.pcfgs) table_eq

theorem kernel : Cert.quiescent_Kernel := by
  intro m g _
  rw [defs_eq]
  exact quiet (F := Bits) m g

end Cert.Proof.Frames

end
-- ==== Proof.RefFrames.lean ====
module

public import proofs.«01_k».proof.Defs
public import proofs.«01_k».proof.Proof.Gen.Reference.Frame
public import proofs.«01_k».proof.Proof.Gen.ReferenceIdeal.Frame

/-! The reference's runs, and its two named constants. -/

@[expose] public section

noncomputable section

open Idealize.ShloMosaic Idealize.SL.Sem

namespace Cert.Proof.RefFrames

theorem reference : Cert.quiescent_Reference := fun m g _ => Cert.Reference.Gen.frame m g
theorem referenceIdeal : Cert.quiescent_ReferenceIdeal := fun m g _ => Cert.ReferenceIdeal.Gen.frame m g

/-- The clip's two bounds are named the two infinities. -/
theorem names : Cert.preserves_Reference_ReferenceIdeal :=
  ⟨IdealRules.named_const.statement Cert.ReferenceIdeal.κ "clip_lo" .f32 0xC2700000#32 ⊥ rfl,
    IdealRules.named_const.statement Cert.ReferenceIdeal.κ "clip_hi" .f32 0x42700000#32 ⊤ rfl⟩

end Cert.Proof.RefFrames

end
-- ==== Proof.KernelValue.lean ====
module

public import proofs.«01_k».proof.Proof.Launch
public import Idealize.ShloMosaic.Lib.Pipeline.Value
public import Idealize.ShloMosaic.Lib.MatmulPlain
public import Idealize.ShloMosaic.Lib.ValueIdx

/-! What a device's result holds over the extended reals: the four devices' products for its rows, added up, scaled,
    and multiplied by their logistic. -/

@[expose] public section

noncomputable section

namespace Cert.KernelIdeal.Ring

open Idealize.ShloMosaic Idealize.ShloMosaic.TcCoe Idealize.ShloMosaic.ValueIdx Idealize.SL.Sem Cert.KernelIdeal.Gen

variable (m : (ℓ : Loc nD τ sig) → Buf (Elt Ideal) ℓ)

/-! ## The operands -/

def xAt (c : Dev nD) (R : Fin 4096) (k : Fin 1024) : EReal :=
  (m ((c : Thread nD τ).loc main_arg0) : S4096x1024.Idx → EReal) (ix2 R k)
def wAt (c : Dev nD) (k : Fin 1024) (j : Fin 2048) : EReal :=
  (m ((c : Thread nD τ).loc main_arg1) : S1024x2048.Idx → EReal) (ix2 k j)
def sxAt (c : Dev nD) : EReal :=
  (m ((c : Thread nD τ).loc main_arg2) : S1.Idx → EReal) (Shape.Idx.first Nat.one_pos)
def swAt (c : Dev nD) : EReal :=
  (m ((c : Thread nD τ).loc main_arg3) : S1.Idx → EReal) (Shape.Idx.first Nat.one_pos)

/-- Row `r` of row block `D`, and column `t` of stream `q`'s block. -/
def rowOf (D : Dev nD) (r : Fin 1024) : Fin 4096 := ⟨1024 * D.val + r.val, by
  have hD : D.val < 4 := D.isLt
  have hr := r.isLt
  omega⟩
def colOf (q : Fin 8) (t : Fin 256) : Fin 2048 := ⟨colN q.val + t.val, by
  have hq := q.isLt
  have ht := t.isLt
  show q.val / 2 * 256 + q.val % 2 * 1024 + t.val < 2048
  omega⟩

/-- Device `d`'s share of one element of row block `D`. -/
def share (d D : Dev nD) (r : Fin 1024) (j : Fin 2048) : EReal := ∑ k : Fin 1024, xAt m d (rowOf D r) k * wAt m d k j

/-- The row block in slot `i` of device `c`. -/
def chkD (c : Dev nD) (i : Fin 4) : Dev nD := ⟨chk c i, Nat.mod_lt _ (by decide)⟩

theorem zero2 : (![0, 0] : Fin 2 → Nat) = fun _ => 0 := funext (by decide)
theorem zero1 : (![0] : Fin 1 → Nat) = fun _ => 0 := funext (by decide)

theorem wstg_eq (c : Dev nD) : wstg m c = m ((c : Thread nD τ).loc main_arg1) :=
  Memref.read_access_unit_zero (Elt Ideal) main_arg1
    (show (fun a => win0_0.index (0 : Fin 1) a * main_arg1.ty.shape.size a) = fun _ => 0 from
      funext fun a => by fin_cases a <;> decide) (fun a => by fin_cases a <;> decide) _
theorem sxstg_eq (c : Dev nD) : sxstg m c = m ((c : Thread nD τ).loc main_arg2) :=
  Memref.read_access_unit_zero (Elt Ideal) main_arg2
    (show (fun a => win0_1.index (0 : Fin 1) a * main_arg2.ty.shape.size a) = fun _ => 0 from
      funext fun a => by fin_cases a <;> decide) (fun a => by fin_cases a <;> decide) _
theorem swstg_eq (c : Dev nD) : swstg m c = m ((c : Thread nD τ).loc main_arg3) :=
  Memref.read_access_unit_zero (Elt Ideal) main_arg3
    (show (fun a => win0_2.index (0 : Fin 1) a * main_arg3.ty.shape.size a) = fun _ => 0 from
      funext fun a => by fin_cases a <;> decide) (fun a => by fin_cases a <;> decide) _

theorem w8_apply (c : Dev nD) (k : Fin 1024) (j : Fin 2048) : (w8 m c : S1024x2048.Idx → EReal) (ix2 k j) = wAt m c k j := by
  unfold w8 k0_pay1
  rw [wstg_eq]
  have h := Memref.readAt_unit_zero (Elt Ideal) cc0_stg0_0 zero2 inb_S1024x2048_S1024x2048_0_0 (m ((c : Thread nD τ).loc main_arg1))
  exact congrFun ((shapeCast_self _ _).trans h) (ix2 k j)

theorem scl_eq (c : Dev nD) : (scl m c : EReal) = sxAt m c * swAt m c := by
  unfold scl k0_pay2
  rw [sxstg_eq, swstg_eq]
  have h := Memref.read_access_unit_zero (Elt Ideal) cc0_stg1_0 zero1 inb_S1_S1_0 (m ((c : Thread nD τ).loc main_arg2))
  have h' := Memref.read_access_unit_zero (Elt Ideal) cc0_stg2_0 zero1 inb_S1_S1_0 (m ((c : Thread nD τ).loc main_arg3))
  have e := congrArg₂ (fun a b : EReal => a * b) (congrFun h oneIdx) (congrFun h' oneIdx)
  exact e

theorem x_apply (c : Dev nD) (i : Fin 4) (r k : Fin 1024) :
    (shapeCast S1024x1024 (xval m c i) shapeCasts_S1x1024x1024_S1024x1024 : S1024x1024.Idx → EReal) (ix2 r k)
      = xAt m c (rowOf (chkD c i) r) k := by
  have h : (shapeCast S1024x1024 (xval m c i) shapeCasts_S1x1024x1024_S1024x1024 : S1024x1024.Idx → EReal) (ix2 r k)
      = (xsrc c i).view.read (Elt Ideal) (m ((c : Thread nD τ).loc main_arg0)) (ix2 r k) :=
    congrArg ((xsrc c i).view.read (Elt Ideal) (m ((c : Thread nD τ).loc main_arg0))) (Equiv.symm_apply_apply _ _)
  refine h.trans (congrArg (m ((c : Thread nD τ).loc main_arg0) : S4096x1024.Idx → EReal) ?_)
  refine Shape.idx_ext₂ ?_ ?_
  · show xoff c i 0 + 1 * r.val = 1024 * chk c i + r.val
    rw [xoff_eq, one_mul]; rfl
  · show xoff c i 1 + 1 * k.val = k.val
    rw [xoff_eq, one_mul]; exact Nat.zero_add _

/-! ## The sums -/

theorem mm_apply (a : FVec Ideal S1024x1024 .fp8e5m2) (b : FVec Ideal S1024x256 .fp8e5m2) (r : Fin 1024) (t : Fin 256) :
    (matmul (F := Ideal) (φ₁ := .fp8e5m2) (φ₂ := .fp8e5m2) dot_S1024x1024_S1024x256_S1024x256_1_0_0_1_n_n none a b
      (constant S1024x256 .f32 0x00000000#32) (ix2 r t) : EReal)
      = ∑ k : Fin 1024, (a (ix2 r k) : EReal) * (b (ix2 k t) : EReal) := by
  refine (Ideal.matmul_plain_apply (φ₁ := .fp8e5m2) (φ₂ := .fp8e5m2) none a b (constant S1024x256 .f32 0x00000000#32) r t).trans ?_
  rw [constant_apply, Ideal.ofBits_zero_f32, zero_add]

theorem part_apply (c : Dev nD) (q : Fin 8) (i : Fin 4) (r : Fin 1024) (t : Fin 256) :
    (part (w8 m c) q (xval m c i) : S1024x256.Idx → EReal) (ix2 r t) = share m c (chkD c i) r (colOf q t) := by
  unfold part share
  rw [mm_apply]
  refine Finset.sum_congr rfl fun k _ => ?_
  rw [truncf_apply, x_apply]
  refine congrArg (xAt m c (rowOf (chkD c i) r) k * ·) (Eq.trans ?_ (w8_apply m c k (colOf q t)))
  refine extractStridedSlice_apply (s := S1024x2048) (t := S1024x256) ![0, colN q.val] (w8 m c) (col_slices q) (ix2 k t)
    (ix2 k (colOf q t)) fun a => ?_
  fin_cases a
  · exact (Nat.zero_add _).symm
  · rfl

/-- The running sum as a block of columns. -/
def sumAt (h : ℕ) (q : Fin 8) (c : Dev nD) (r : Fin 1024) (t : Fin 256) : EReal :=
  (shapeCast S1024x256 (acc m h q c) shapeCasts_S1x1x1024x256_S1024x256 : S1024x256.Idx → EReal) (ix2 r t)

theorem sumAt_zero (q : Fin 8) (c : Dev nD) (r : Fin 1024) (t : Fin 256) :
    sumAt m 0 q c r t = share m c (chkD c (hopX 0 q)) r (colOf q t) := by
  unfold sumAt acc seedPay
  rw [shapeCast_shapeCast, truncf_apply, part_apply]
theorem sumAt_succ (h : ℕ) (q : Fin 8) (c : Dev nD) (r : Fin 1024) (t : Fin 256) :
    sumAt m (h + 1) q c r t = sumAt m h q (ups q c) r t + share m c (chkD c (hopX (h + 1) q)) r (colOf q t) := by
  unfold sumAt
  rw [acc]
  unfold midPay sumUp
  rw [shapeCast_shapeCast, truncf_apply, addf_apply, extf_apply, part_apply]

/-- Every product added on the way is for the last device's rows, -/
theorem rows_last (q : Fin 8) (c : Dev nD) :
    chkD (ups q (ups q (ups q c))) (hopX 0 q) = c ∧ chkD (ups q (ups q c)) (hopX 1 q) = c ∧ chkD (ups q c) (hopX 2 q) = c
      ∧ chkD c 3 = c := by
  revert q c; decide +kernel

/-- and the four devices passed are all of them. -/
theorem sum_ring (f : Dev nD → EReal) (q : Fin 8) (c : Dev nD) :
    f (ups q (ups q (ups q c))) + f (ups q (ups q c)) + f (ups q c) + f c = ∑ d : Dev nD, f d := by
  have h : (Finset.univ : Finset (Dev nD)) = {ups q (ups q (ups q c)), ups q (ups q c), ups q c, c} := by
    revert q c; decide +kernel
  have h1 : ups q (ups q (ups q c)) ∉ ({ups q (ups q c), ups q c, c} : Finset (Dev nD)) := by revert q c; decide +kernel
  have h2 : ups q (ups q c) ∉ ({ups q c, c} : Finset (Dev nD)) := by revert q c; decide +kernel
  have h3 : ups q c ∉ ({c} : Finset (Dev nD)) := by revert q c; decide +kernel
  rw [h, Finset.sum_insert h1, Finset.sum_insert h2, Finset.sum_insert h3, Finset.sum_singleton, add_assoc, add_assoc]

theorem outv_apply (q : Fin 8) (c : Dev nD) (r : Fin 1024) (t : Fin 256) :
    (outv m q c : S1024x256.Idx → EReal) (ix2 r t)
      = (fun y : EReal => y * Ideal.logistic y) ((∑ d : Dev nD, share m d c r (colOf q t)) * (sxAt m c * swAt m c)) := by
  have hs : (sumUp (w8 m c) q (xval m c 3) (acc m 2 q (ups q c)) : S1024x256.Idx → EReal) (ix2 r t)
      = ∑ d : Dev nD, share m d c r (colOf q t) := by
    have h : (sumUp (w8 m c) q (xval m c 3) (acc m 2 q (ups q c)) : S1024x256.Idx → EReal) (ix2 r t)
        = sumAt m 2 q (ups q c) r t + share m c (chkD c 3) r (colOf q t) := by
      unfold sumUp sumAt
      rw [addf_apply, extf_apply, part_apply]
    obtain ⟨e0, e1, e2, e3⟩ := rows_last q c
    rw [h, sumAt_succ, sumAt_succ, sumAt_zero, e0, e1, e2, e3]
    exact sum_ring (fun d => share m d c r (colOf q t)) q c
  unfold outv finPay
  rw [shapeCast_self]
  rw [← hs, ← scl_eq]
  rfl

/-- Column `j` is one stream's. -/
theorem col_exists (j : Fin 2048) : ∃ q t, colOf q t = j := by
  have hj := j.isLt
  refine ⟨⟨2 * (j.val % 1024 / 256) + j.val / 1024, by omega⟩, ⟨j.val % 256, by omega⟩, Fin.ext ?_⟩
  show (2 * (j.val % 1024 / 256) + j.val / 1024) / 2 * 256 + (2 * (j.val % 1024 / 256) + j.val / 1024) % 2 * 1024 + j.val % 256 = j.val
  omega

/-- Element by element, what device `c`'s result holds. -/
theorem outBuf_apply (c : Dev nD) (r : Fin 1024) (j : Fin 2048) :
    (outBuf m c : S1024x2048.Idx → EReal) (ix2 r j)
      = (fun y : EReal => y * Ideal.logistic y) ((∑ d : Dev nD, share m d c r j) * (sxAt m c * swAt m c)) := by
  obtain ⟨q, t, rfl⟩ := col_exists j
  have e : (ix2 r (colOf q t) : S1024x2048.Idx) = (colR q).emb (ix2 r t : S1024x256.Idx) := by
    refine Shape.idx_ext₂ ?_ ?_
    · show r.val = 0 + 1 * r.val
      omega
    · show colN q.val + t.val = colN q.val + 1 * t.val
      omega
  rw [e]
  exact (outBuf_emb m c q (ix2 r t)).trans (outv_apply m q c r t)

end Cert.KernelIdeal.Ring

end
-- ==== Proof.RefValue.lean ====
module

public import proofs.«01_k».proof.Defs
public import proofs.«01_k».proof.Proof.Gen.Reference.Frame
public import proofs.«01_k».proof.Proof.Gen.ReferenceIdeal.Value
public import Idealize.ShloMosaic.Lib.Pipeline.Value
public import Idealize.ShloMosaic.Lib.Pipeline.ReadBack
public import Idealize.ShloMosaic.Lib.MatmulPlain
public import Idealize.ShloMosaic.Lib.IdealHost
public import Idealize.ShloMosaic.Lib.ValueIdx

/-! The reference's one kernel call: what its result array holds after the run. -/

@[expose] public section

noncomputable section

open Idealize.ShloMosaic Idealize.ShloMosaic.TcCoe Idealize.ShloMosaic.ValueIdx Idealize.SL.Sem

namespace Cert.ReferenceIdeal.Plain

open Cert.ReferenceIdeal Cert.ReferenceIdeal.Gen

variable {F : FTy → Type} [FloatOps F] [Named F]
variable (m : (ℓ : Loc nD τ sig) → Buf (Elt F) ℓ) (ρ : Dev nD → PrngReg)

/-- The one index of a scalar's array. -/
def one : S1.Idx := Shape.Idx.first Nat.one_pos

/-- The reference's result from its four arguments. -/
def refOut (x : Vec F S4096x4096 .f32) (w : Vec F S4096x2048 .f32) (sx sw : Vec F S1 .f32) : FVec F S4096x2048 .f32 :=
  k0_pay1 x w (sx one) (sw one)

theorem off2 : (![0, 0] : Fin 2 → Nat) = fun _ => 0 := funext (by decide)
theorem off1 : (![0] : Fin 1 → Nat) = fun _ => 0 := funext (by decide)

/-! ## The one point's blocks are the arrays -/

theorem blk0 (c : Dev nD) : (iblk m c 0 t0_0 : Vec F S4096x4096 .f32) = m ((c : Thread nD τ).loc main_arg0) := by
  show (win0_0.blk t0_0).view.read (Elt F) (m ((c : Thread nD τ).loc main_arg0)) = _
  exact Memref.read_access_unit_zero (Elt F) main_arg0
    (show (fun a => win0_0.index t0_0 a * main_arg0.ty.shape.size a) = fun _ => 0 from
      funext fun a => by fin_cases a <;> decide) (fun a => by fin_cases a <;> decide) _
theorem blk1 (c : Dev nD) : (iblk m c 1 t0_0 : Vec F S4096x2048 .f32) = m ((c : Thread nD τ).loc main_arg1) := by
  show (win0_1.blk t0_0).view.read (Elt F) (m ((c : Thread nD τ).loc main_arg1)) = _
  exact Memref.read_access_unit_zero (Elt F) main_arg1
    (show (fun a => win0_1.index t0_0 a * main_arg1.ty.shape.size a) = fun _ => 0 from
      funext fun a => by fin_cases a <;> decide) (fun a => by fin_cases a <;> decide) _
theorem blk2 (c : Dev nD) : (iblk m c 2 t0_0 : Vec F S1 .f32) = m ((c : Thread nD τ).loc main_arg2) := by
  show (win0_2.blk t0_0).view.read (Elt F) (m ((c : Thread nD τ).loc main_arg2)) = _
  exact Memref.read_access_unit_zero (Elt F) main_arg2
    (show (fun a => win0_2.index t0_0 a * main_arg2.ty.shape.size a) = fun _ => 0 from
      funext fun a => by fin_cases a <;> decide) (fun a => by fin_cases a <;> decide) _
theorem blk3 (c : Dev nD) : (iblk m c 3 t0_0 : Vec F S1 .f32) = m ((c : Thread nD τ).loc main_arg3) := by
  show (win0_3.blk t0_0).view.read (Elt F) (m ((c : Thread nD τ).loc main_arg3)) = _
  exact Memref.read_access_unit_zero (Elt F) main_arg3
    (show (fun a => win0_3.index t0_0 a * main_arg3.ty.shape.size a) = fun _ => 0 from
      funext fun a => by fin_cases a <;> decide) (fun a => by fin_cases a <;> decide) _
theorem blk4 (c : Dev nD) (f : Buf (Elt F) ((c : Thread nD τ).loc main_v0)) : (win0_4.blk t0_0).view.read (Elt F) f = f :=
  Memref.read_access_unit_zero (Elt F) main_v0
    (show (fun a => win0_4.index t0_0 a * main_v0.ty.shape.size a) = fun _ => 0 from
      funext fun a => by fin_cases a <;> decide) (fun a => by fin_cases a <;> decide) f

/-- What the body leaves in the output's buffer, from the arrays. -/
theorem body_out (c : Dev nD) (x : Vec F S4096x4096 .f32) (w : Vec F S4096x2048 .f32) (sx sw : Vec F S1 .f32) :
    out0_A_4 c (ms0_0 t0_0) (hs0_0 t0_0) (ms0_1 t0_0) (hs0_1 t0_0) (ms0_2 t0_0) (hs0_2 t0_0) (ms0_3 t0_0) (hs0_3 t0_0)
      (ms0_4 t0_0) (hs0_4 t0_0) x w sx sw = refOut x w sx sw := by
  have e0 := Memref.readAt_unit_zero (Elt F) cc0_stg0_0 off2 inb_S4096x4096_S4096x4096_0_0 ((hs0_0 t0_0).unread x)
  have e1 := Memref.readAt_unit_zero (Elt F) cc0_stg1_0 off2 inb_S4096x2048_S4096x2048_0_0 ((hs0_1 t0_0).unread w)
  have e2 := Memref.readAt_unit_zero (Elt F) cc0_stg2_0 off1 inb_S1_S1_0 ((hs0_2 t0_0).unread sx)
  have e3 := Memref.readAt_unit_zero (Elt F) cc0_stg3_0 off1 inb_S1_S1_0 ((hs0_3 t0_0).unread sw)
  have u0 : (hs0_0 t0_0).unread (Val := Elt F) x = x := read_unread_whole (Val := Elt F) cc0_stg0_0 (hs0_0 t0_0) x
  have u1 : (hs0_1 t0_0).unread (Val := Elt F) w = w := read_unread_whole (Val := Elt F) cc0_stg1_0 (hs0_1 t0_0) w
  have u2 : (hs0_2 t0_0).unread (Val := Elt F) sx = sx := read_unread_whole (Val := Elt F) cc0_stg2_0 (hs0_2 t0_0) sx
  have u3 : (hs0_3 t0_0).unread (Val := Elt F) sw = sw := read_unread_whole (Val := Elt F) cc0_stg3_0 (hs0_3 t0_0) sw
  unfold out0_A_4 kernelRun0_A refOut
  simp only [kernelRun0_A.sl.r, kernelRun0_A.sl.r_1]
  refine (View.read_writes_eq_canon VO0_4 _ _ fun y => ?_).trans ((View.canon_unit_zero off2 inb_S4096x2048_S4096x2048_0_0 _).trans ?_)
  · exact ⟨_, List.mem_singleton_self _, View.mem_set_unit_zero off2 inb_S4096x2048_S4096x2048_0_0 y⟩
  · exact congr (congr (congr (congrArg k0_pay1 (e0.trans u0)) (e1.trans u1)) (congrFun (e2.trans u2) _)) (congrFun (e3.trans u3) _)

theorem arr_eq (c : Dev nD) : (dats m 0 c).arrAt 4 cfg0.N
    = refOut (m ((c : Thread nD τ).loc main_arg0)) (m ((c : Thread nD τ).loc main_arg1))
      (m ((c : Thread nD τ).loc main_arg2)) (m ((c : Thread nD τ).loc main_arg3)) := by
  have h := Cert.ReferenceIdeal.Value.blocks4 m c t0_0 (by decide)
  rw [Cert.ReferenceIdeal.Value.flushed4_A, body_out, blk0, blk1, blk2, blk3] at h
  exact (blk4 c _).symm.trans (h.trans (funext fun _ => rfl))

/-! ## One element over the extended reals -/

theorem exp_nonneg (y : EReal) : 0 ≤ Ideal.exp y := by
  induction y with
  | bot => exact le_refl _
  | top => exact le_top
  | coe r => exact EReal.coe_nonneg.mpr (Real.exp_pos r).le

/-- The quotient by one plus the exponential is the product with the logistic function. -/
theorem div_eq_mul_logistic (y : EReal) : Ideal.div y (1 + Ideal.exp (0 - y)) = y * Ideal.logistic y := by
  have h : (1 : EReal) + Ideal.exp (-y) ≠ 0 := (lt_of_lt_of_le zero_lt_one (le_add_of_nonneg_right (exp_nonneg _))).ne'
  unfold Ideal.logistic Ideal.div
  rw [zero_sub, if_neg h, if_neg h, one_mul]

theorem refOut_apply (x : Vec Ideal S4096x4096 .f32) (w : Vec Ideal S4096x2048 .f32) (sx sw : Vec Ideal S1 .f32)
    (r : Fin 4096) (j : Fin 2048) :
    (refOut x w sx sw : S4096x2048.Idx → EReal) (ix2 r j)
      = (fun y : EReal => y * Ideal.logistic y)
          ((∑ k : Fin 4096, (x (ix2 r k) : EReal) * (w (ix2 k j) : EReal)) * ((sx one : EReal) * (sw one : EReal))) := by
  have hm : (matmul (F := Ideal) (φ₁ := .f32) (φ₂ := .f32) dot_S4096x4096_S4096x2048_S4096x2048_1_0_0_1_n_n none x w (constant S4096x2048 .f32 0x00000000#32) (ix2 r j) : EReal)
      = ∑ k : Fin 4096, (x (ix2 r k) : EReal) * (w (ix2 k j) : EReal) := by
    refine (Ideal.matmul_plain_apply (φ₁ := .f32) (φ₂ := .f32) none x w (constant S4096x2048 .f32 0x00000000#32) r j).trans ?_
    rw [constant_apply, Ideal.ofBits_zero_f32, zero_add]
  have lo : (Named.named (F := Ideal) (φ := .f32) κ "clip_lo" 0xC2700000#32 : EReal) = ⊥ :=
    IdealRules.named_const.ideal_named_scalar _ _ _ _ rfl
  have hi : (Named.named (F := Ideal) (φ := .f32) κ "clip_hi" 0x42700000#32 : EReal) = ⊤ :=
    IdealRules.named_const.ideal_named_scalar _ _ _ _ rfl
  have z : (FloatOps.ofBits (F := Ideal) .f32 0x00000000#32 : EReal) = 0 := Ideal.ofBits_zero_f32
  have o : (FloatOps.ofBits (F := Ideal) .f32 0x3F800000#32 : EReal) = 1 := Ideal.ofBits_one_f32
  unfold refOut k0_pay1
  revert hm
  generalize (matmul (F := Ideal) (φ₁ := .f32) (φ₂ := .f32) dot_S4096x4096_S4096x2048_S4096x2048_1_0_0_1_n_n none x w
    (constant S4096x2048 .f32 0x00000000#32)) = M
  generalize (∑ k : Fin 4096, (x (ix2 r k) : EReal) * (w (ix2 k j) : EReal)) = y
  intro hm
  show Ideal.div (M (ix2 r j) * ((sx one : EReal) * (sw one : EReal))) (FloatOps.ofBits (F := Ideal) .f32 0x3F800000#32
    + Ideal.exp (FloatOps.ofBits (F := Ideal) .f32 0x00000000#32
    - min (Named.named (F := Ideal) (φ := .f32) κ "clip_hi" 0x42700000#32)
      (max (Named.named (F := Ideal) (φ := .f32) κ "clip_lo" 0xC2700000#32) (M (ix2 r j) * ((sx one : EReal) * (sw one : EReal)))))) = _
  rw [hm, z, o, lo, hi, max_eq_right bot_le, min_eq_right le_top]
  exact div_eq_mul_logistic _

end Cert.ReferenceIdeal.Plain

end
-- ==== Proof.Algebraic.lean ====
module

public import proofs.«01_k».proof.Defs
public import proofs.«01_k».proof.Proof.KernelValue
public import proofs.«01_k».proof.Proof.RefValue
public import Idealize.ShloMosaic.Lib.Layout

/-! Over the extended reals each device's result is its row block of the reference's. -/

@[expose] public section

noncomputable section

open Idealize.ShloMosaic Idealize.ShloMosaic.TcCoe Idealize.ShloMosaic.ValueIdx Idealize.SL.Sem

namespace Cert.Proof.Algebraic

open Cert.KernelIdeal.Ring (rowOf share xAt wAt sxAt swAt outBuf outBuf_apply)

variable (m : (ℓ : Loc Cert.KernelIdeal.nD Cert.KernelIdeal.τ Cert.KernelIdeal.sig) → Buf (Elt Ideal) ℓ)
variable (x : (⟨2, ![4096, 4096]⟩ : Shape).Idx → EReal) (w : (⟨2, ![4096, 2048]⟩ : Shape).Idx → EReal)
variable (sx sw : (⟨1, ![1]⟩ : Shape).Idx → EReal)

/-- A contracted sum is the sum over the devices of the sums over their blocks. -/
theorem sum_blocks (f : Fin 4096 → EReal) :
    ∑ k : Fin 4096, f k = ∑ d : Fin 4, ∑ k : Fin 1024, f (rowOf d k) := by
  rw [← Fintype.sum_prod_type', ← Equiv.sum_comp (finProdFinEquiv (m := 4) (n := 1024)) f]
  refine Finset.sum_congr rfl fun p _ => congrArg f (Fin.ext ?_)
  exact Nat.add_comm _ _

/-- One device's result against its block of the reference's. -/
theorem block_eq
    (hx : ∀ c : Dev Cert.KernelIdeal.nD, m ((c.tc : Thread Cert.KernelIdeal.nD Cert.KernelIdeal.τ).loc Cert.KernelIdeal.main_arg0) = Layout.block ⟨2, ![4096, 1024]⟩ ⟨2, ![4096, 4096]⟩ 1 4 c x)
    (hw : ∀ c : Dev Cert.KernelIdeal.nD, m ((c.tc : Thread Cert.KernelIdeal.nD Cert.KernelIdeal.τ).loc Cert.KernelIdeal.main_arg1) = Layout.block ⟨2, ![1024, 2048]⟩ ⟨2, ![4096, 2048]⟩ 0 4 c w)
    (hsx : ∀ c : Dev Cert.KernelIdeal.nD, m ((c.tc : Thread Cert.KernelIdeal.nD Cert.KernelIdeal.τ).loc Cert.KernelIdeal.main_arg2) = sx)
    (hsw : ∀ c : Dev Cert.KernelIdeal.nD, m ((c.tc : Thread Cert.KernelIdeal.nD Cert.KernelIdeal.τ).loc Cert.KernelIdeal.main_arg3) = sw)
    (c : Dev Cert.KernelIdeal.nD) :
    outBuf m c = Layout.block ⟨2, ![1024, 2048]⟩ ⟨2, ![4096, 2048]⟩ 0 4 c
      (Cert.ReferenceIdeal.Plain.refOut (F := Ideal) x w sx sw : (⟨2, ![4096, 2048]⟩ : Shape).Idx → EReal) := by
  funext i
  obtain ⟨r, j, rfl⟩ : ∃ (r : Fin 1024) (j : Fin 2048), i = ix2 r j := ⟨i 0, i 1, eq_ix2 i⟩
  refine (outBuf_apply m c r j).trans ?_
  rw [Layout.block_apply]
  have hi : ∀ h : Layout.Tiles ⟨2, ![1024, 2048]⟩ ⟨2, ![4096, 2048]⟩ 0 4, h.idx c (ix2 r j) = ix2 (rowOf c r) j := fun h =>
    Shape.idx_ext₂ (by show c.val * 1024 + r.val = 1024 * c.val + r.val; omega) rfl
  rw [hi]
  refine Eq.trans ?_ (Cert.ReferenceIdeal.Plain.refOut_apply x w sx sw (rowOf c r) j).symm
  have ex : ∀ (d : Dev Cert.KernelIdeal.nD) (k : Fin 1024), xAt m d (rowOf c r) k = x (ix2 (rowOf c r) (rowOf d k)) := fun d k => by
    unfold xAt
    rw [hx d]
    exact congrArg x (Shape.idx_ext₂ rfl (by show d.val * 1024 + k.val = 1024 * d.val + k.val; omega))
  have ew : ∀ (d : Dev Cert.KernelIdeal.nD) (k : Fin 1024), wAt m d k j = w (ix2 (rowOf d k) j) := fun d k => by
    unfold wAt
    rw [hw d]
    exact congrArg w (Shape.idx_ext₂ (by show d.val * 1024 + k.val = 1024 * d.val + k.val; omega) rfl)
  have es : (∑ d : Dev Cert.KernelIdeal.nD, share m d c r j)
      = ∑ k : Fin 4096, x (ix2 (rowOf c r) k) * w (ix2 k j) := by
    rw [sum_blocks]
    unfold share
    exact Finset.sum_congr rfl fun d _ => Finset.sum_congr rfl fun k _ => by rw [ex, ew]
  have e2 : sxAt m c = sx (Shape.Idx.first Nat.one_pos) := congrFun (hsx c) _
  have e3 : swAt m c = sw (Shape.Idx.first Nat.one_pos) := congrFun (hsw c) _
  rw [es, e2, e3]
  rfl

theorem kernel_reference : Cert.algebraic_KernelIdeal_ReferenceIdeal := by
  intro m g m' g' _ hin
  refine ⟨Cert.ReferenceIdeal.Plain.refOut (F := Ideal)
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2))
      (m' (((0 : Dev Cert.ReferenceIdeal.nD).tc : Thread Cert.ReferenceIdeal.nD Cert.ReferenceIdeal.τ).loc Cert.ReferenceIdeal.main_arg3)), ?_, ?_⟩
  · refine (θ_run Cert.KernelIdeal.defs _ _).mono (fun r h c => ?_) (Cert.KernelIdeal.Ring.run_main (F := Ideal) m g)
    exact ⟨(h.1 c).2.2.trans (block_eq m _ _ _ _ (fun c => (hin c).1) (fun c => (hin c).2.1) (fun c => (hin c).2.2.1)
      (fun c => (hin c).2.2.2) c), (h.1 c).2.1, (h.1 c).1 0, (h.1 c).1 1, (h.1 c).1 2⟩
  · refine (θ_run Cert.ReferenceIdeal.defs _ _).mono (fun r h => ?_) (Cert.ReferenceIdeal.Value.run_blocks (F := Ideal) m' g')
    exact ⟨(h 0).1.trans (Cert.ReferenceIdeal.Plain.arr_eq m' 0), (h 0).2⟩

end Cert.Proof.Algebraic

end
-- ==== Proof.lean ====
/- The certificate's claims, put together from the modules under Proof/. -/
module

public import proofs.«01_k».proof.Defs
public import proofs.«01_k».proof.Proof.Frames
public import proofs.«01_k».proof.Proof.RefFrames
public import proofs.«01_k».proof.Proof.Algebraic
public import proofs.«01_k».proof.Proof.Gen.Kernel
public import proofs.«01_k».proof.Proof.Gen.KernelIdeal
public import proofs.«01_k».proof.Proof.Gen.Reference
public import proofs.«01_k».proof.Proof.Gen.ReferenceIdeal
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.Reference.Gen.facts, Cert.ReferenceIdeal.Gen.facts,
    Frames.kernel, Frames.kernelIdeal, RefFrames.reference, RefFrames.referenceIdeal, trivial, RefFrames.names, Algebraic.kernel_reference⟩

end Cert.Proof

end
